-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_width_logits_bounded [hPre_width_logits_bounded : Cert.Pre_width_logits_bounded.Facts] (m : (ℓ : Loc Cert.KernelIdeal.nD Cert.KernelIdeal.τ Cert.KernelIdeal.sig) → Buf (Elt Ideal) ℓ) : Prop :=
  ∀ c : Dev Cert.KernelIdeal.nD,
    (Cert.Pre_width_logits_bounded.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_width_logits_bounded [hPre_width_logits_bounded : Cert.Pre_width_logits_bounded.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_width_logits_bounded.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_width_logits_bounded [hKernelIdeal : Cert.KernelIdeal.Facts] [hPre_width_logits_bounded : Cert.Pre_width_logits_bounded.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_width_logits_bounded m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_width_logits_bounded [hReferenceIdeal : Cert.ReferenceIdeal.Facts] [hPre_width_logits_bounded : Cert.Pre_width_logits_bounded.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_width_logits_bounded m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.sign_bit.Statement Cert.KernelIdeal.S16x256 .f32

def algebraic_KernelIdeal_ReferenceIdeal_pre_width_logits_bounded [hKernelIdeal : Cert.KernelIdeal.Facts] [hReferenceIdeal : Cert.ReferenceIdeal.Facts] [hPre_width_logits_bounded : Cert.Pre_width_logits_bounded.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_width_logits_bounded m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v191) = v0 c
          ∧ r.2.mem ((c.tc : Thread Cert.ReferenceIdeal.nD Cert.ReferenceIdeal.τ).loc Cert.ReferenceIdeal.main_v192) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_width_logits_bounded : Cert.Pre_width_logits_bounded.Facts),
    quiescent_Kernel (hKernel := hKernel)
    ∧ quiescent_KernelIdeal (hKernelIdeal := hKernelIdeal)
    ∧ quiescent_KernelIdeal_pre_width_logits_bounded (hKernelIdeal := hKernelIdeal) (hPre_width_logits_bounded := hPre_width_logits_bounded)
    ∧ quiescent_ReferenceIdeal (hReferenceIdeal := hReferenceIdeal)
    ∧ quiescent_ReferenceIdeal_pre_width_logits_bounded (hReferenceIdeal := hReferenceIdeal) (hPre_width_logits_bounded := hPre_width_logits_bounded)
    ∧ preserves_Kernel_KernelIdeal
    ∧ algebraic_KernelIdeal_ReferenceIdeal_pre_width_logits_bounded (hKernelIdeal := hKernelIdeal) (hReferenceIdeal := hReferenceIdeal) (hPre_width_logits_bounded := hPre_width_logits_bounded)
-- ==== Pre_width_logits_bounded.lean ====
abbrev S524288x16 : Shape := ⟨2, ![524288, 16]⟩
abbrev S16x25 : Shape := ⟨2, ![16, 25]⟩
abbrev S16x8 : Shape := ⟨2, ![16, 8]⟩
abbrev S_ : Shape := ⟨0, ![]⟩
abbrev S16 : Shape := ⟨1, ![16]⟩

class Facts : Prop where
  slices_S16x25_S16x8_0_0 : S16x25.Slices ![0, 0] S16x8
  reducesTo_S16x8_S16_d1 : S16x8.ReducesTo [1] S16
  h_S_ : 0 < S_.numel
  bcast_S_S16 : S_.BroadcastsInDim S16 (![] : Fin 0 → Fin S16.rank)
  reducesTo_S16_S_d0 : S16.ReducesTo [0] S_

variable [Facts]

def fn {F : FTy → Type} [FloatOps F] (main_arg0 : FVec F S524288x16 .f32) (main_arg1 : FVec F S16x25 .f32) : IVec S_ 1 :=
  let main_v0 : FVec F S16x8 .f32 := (extractStridedSlice S16x8 ![0, 0] · slices_S16x25_S16x8_0_0) main_arg1
  let main_cst : FVec F S_ .f32 := constant S_ .f32 0xFF800000#32
  let main_v1 : FVec F S16 .f32 := (fun x v => Host.reduce FloatOps.maximumf x v reducesTo_S16x8_S16_d1 h_S_) main_v0 main_cst
  let main_v2 : FVec F S16 .f32 := Host.absf main_v1
  let main_cst_0 : FVec F S_ .f32 := constant S_ .f32 0x7F800000#32
  let main_v3 : FVec F S16 .f32 := broadcastInDim S16 ![] bcast_S_S16 main_cst_0
  let main_v4 : IVec S16 1 := cmpf .olt main_v2 main_v3
  let main_c : IVec S_ 1 := constantI S_ 1 1#1
  let main_v5 : IVec S_ 1 := (fun x v => Host.reduce IntOp.andi x v reducesTo_S16_S_d0 h_S_) main_v4 main_c
  main_v5
-- ==== Kernel.lean ====
abbrev S524288x16 : Shape := ⟨2, ![524288, 16]⟩
abbrev S16x25 : Shape := ⟨2, ![16, 25]⟩
abbrev S16x524288 : Shape := ⟨2, ![16, 524288]⟩
abbrev S16x48 : Shape := ⟨2, ![16, 48]⟩
abbrev S16x8 : Shape := ⟨2, ![16, 8]⟩
abbrev S16x9 : Shape := ⟨2, ![16, 9]⟩
abbrev S16 : Shape := ⟨1, ![16]⟩
abbrev S16x1 : Shape := ⟨2, ![16, 1]⟩
abbrev S16x6 : Shape := ⟨2, ![16, 6]⟩
abbrev S524288 : Shape := ⟨1, ![524288]⟩
abbrev S16x4096 : Shape := ⟨2, ![16, 4096]⟩
abbrev S4096 : Shape := ⟨1, ![4096]⟩
abbrev S16x256 : Shape := ⟨2, ![16, 256]⟩
abbrev S256 : Shape := ⟨1, ![256]⟩

abbrev nBuf : Space → Nat
  | .hbm => 7
  | .vmem => 9
  | .smem => 0
  | _ => 0

abbrev bufTy : (tb : Table) → Fin (tcTables nBuf tb) → BufTy
  | .hbm, ⟨0, _⟩ => ⟨S524288x16, .f32⟩
  | .hbm, ⟨1, _⟩ => ⟨S16x25, .f32⟩
  | .hbm, ⟨2, _⟩ => ⟨S16x524288, .f32⟩
  | .hbm, ⟨3, _⟩ => ⟨S16x48, .f32⟩
  | .hbm, ⟨4, _⟩ => ⟨S16x524288, .f32⟩
  | .hbm, ⟨5, _⟩ => ⟨S524288, .f32⟩
  | .hbm, ⟨6, _⟩ => ⟨S524288x16, .f32⟩
  | .local _ .vmem, ⟨0, _⟩ => ⟨S16x25, .f32⟩
  | .local _ .vmem, ⟨1, _⟩ => ⟨S16x48, .f32⟩
  | .local _ .vmem, ⟨2, _⟩ => ⟨S16x48, .f32⟩
  | .local _ .vmem, ⟨3, _⟩ => ⟨S16x4096, .f32⟩
  | .local _ .vmem, ⟨4, _⟩ => ⟨S16x4096, .f32⟩
  | .local _ .vmem, ⟨5, _⟩ => ⟨S16x4096, .f32⟩
  | .local _ .vmem, ⟨6, _⟩ => ⟨S16x4096, .f32⟩
  | .local _ .vmem, ⟨7, _⟩ => ⟨S4096, .f32⟩
  | .local _ .vmem, ⟨8, _⟩ => ⟨S4096, .f32⟩
  | _, _ => ⟨S524288x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v3 : Ref sig .tc := ⟨.hbm, 6, rfl⟩
abbrev cc0_stg0_0 : Ref sig .tc := ⟨.vmem, 0, rfl⟩
abbrev cc0_stg1_0 : Ref sig .tc := ⟨.vmem, 1, rfl⟩
abbrev cc1_stg0_0 : Ref sig .tc := ⟨.vmem, 2, rfl⟩
abbrev cc1_stg1_0 : Ref sig .tc := ⟨.vmem, 3, rfl⟩
abbrev cc1_stg1_1 : Ref sig .tc := ⟨.vmem, 4, rfl⟩
abbrev cc1_stg2_0 : Ref sig .tc := ⟨.vmem, 5, rfl⟩
abbrev cc1_stg2_1 : Ref sig .tc := ⟨.vmem, 6, rfl⟩
abbrev cc1_stg3_0 : Ref sig .tc := ⟨.vmem, 7, rfl⟩
abbrev cc1_stg3_1 : Ref sig .tc := ⟨.vmem, 8, rfl⟩
abbrev cc0_sem0_0 : DmaSem sig := 0
abbrev cc0_sem1_0 : DmaSem sig := 1
abbrev cc1_sem0_0 : DmaSem sig := 2
abbrev cc1_sem1_0 : DmaSem sig := 3
abbrev cc1_sem1_1 : DmaSem sig := 4
abbrev cc1_sem2_0 : DmaSem sig := 5
abbrev cc1_sem2_1 : DmaSem sig := 6
abbrev cc1_sem3_0 : DmaSem sig := 7
abbrev cc1_sem3_1 : DmaSem sig := 8

abbrev nD : Nat := 1
abbrev τ : Topo := Topo.v7x

variable {F : FTy → Type} [BitOps F]

abbrev grid0 : Pipeline.Grid := .none

abbrev stage0_0 : Fin 1 → Memref sig .tc .vmem S16x25 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x48 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev grid1 : Pipeline.Grid := ⟨1, ![128], ![false]⟩

@[reducible] def k1_t1_loop : Scf.Loop 32 :=
  let c0_i32 : BitVec 32 := 0#32
  let c16_i32 : BitVec 32 := 16#32
  let v43 : BitVec 32 := Scalar.addi c0_i32 c16_i32
  let c1_i32 : BitVec 32 := 1#32
  ⟨c0_i32, v43, c1_i32⟩
def k1_off1 (k1_t1 : Fin k1_t1_loop.trips) : Fin 2 → Nat :=
  let c0_2 : Index := 0#32
  let c0_i32 : BitVec 32 := 0#32
  let c1_i32 : BitVec 32 := 1#32
  let arg5 : BitVec 32 := Scf.iv c0_i32 c1_i32 k1_t1
  let c256_i32 : BitVec 32 := 256#32
  let v44 : BitVec 32 := Scalar.muli arg5 c256_i32
  let v45 : Index := Scalar.indexCast v44
  ![0, v45.toNat]
def k1_off2 (k1_t1 : Fin k1_t1_loop.trips) : Fin 1 → Nat :=
  let c0_i32 : BitVec 32 := 0#32
  let c1_i32 : BitVec 32 := 1#32
  let arg5 : BitVec 32 := Scf.iv c0_i32 c1_i32 k1_t1
  let c256_i32 : BitVec 32 := 256#32
  let v44 : BitVec 32 := Scalar.muli arg5 c256_i32
  let v279 : Index := Scalar.indexCast v44
  ![v279.toNat]
def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 1 → Nat :=
  let arg0 : BitVec 32 := BitVec.ofNat 32 (i 0).val
  let c0_i32 : BitVec 32 := 0#32
  ![arg0.toNat]

abbrev stage1_0 : Fin 1 → Memref sig .tc .vmem S16x48 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S16x4096 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S16x4096 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S4096 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]
-- ==== KernelIdeal.lean ====
variable {F : FTy → Type} [FloatOps F]
-- ==== ReferenceIdeal.lean ====
abbrev S524288x16 : Shape := ⟨2, ![524288, 16]⟩
abbrev S16x25 : Shape := ⟨2, ![16, 25]⟩
abbrev S16x8 : Shape := ⟨2, ![16, 8]⟩
abbrev S_ : Shape := ⟨0, ![]⟩
abbrev S16 : Shape := ⟨1, ![16]⟩
abbrev S16x1 : Shape := ⟨2, ![16, 1]⟩
abbrev S16x9 : Shape := ⟨2, ![16, 9]⟩
abbrev S16x524288 : Shape := ⟨2, ![16, 524288]⟩
abbrev S16x524288x1 : Shape := ⟨3, ![16, 524288, 1]⟩
abbrev S16x7 : Shape := ⟨2, ![16, 7]⟩
abbrev S16x1x7 : Shape := ⟨3, ![16, 1, 7]⟩
abbrev S16x524288x7 : Shape := ⟨3, ![16, 524288, 7]⟩
abbrev S524288 : Shape := ⟨1, ![524288]⟩

abbrev nBuf : Space → Nat
  | .hbm => 280
  | .vmem => 0
  | .smem => 0
  | _ => 0

abbrev hbmTy0_0 (i : Nat) : BufTy := match i % 128 with
  | 0 => ⟨S524288x16, .f32⟩
  | 1 => ⟨S16x25, .f32⟩
  | 2 => ⟨S16x8, .f32⟩
  | 3 => ⟨S_, .f32⟩
  | 4 => ⟨S16, .f32⟩
  | 5 => ⟨S_, .f32⟩
  | 6 => ⟨S16, .f32⟩
  | 7 => ⟨S16, .f32⟩
  | 8 => ⟨S16x1, .f32⟩
  | 9 => ⟨S16x8, .f32⟩
  | 10 => ⟨S16x8, .f32⟩
  | 11 => ⟨S16x8, .f32⟩
  | 12 => ⟨S_, .f32⟩
  | 13 => ⟨S16, .f32⟩
  | 14 => ⟨S16x1, .f32⟩
  | 15 => ⟨S16x8, .f32⟩
  | 16 => ⟨S16x8, .f32⟩
  | 17 => ⟨S_, .f32⟩
  | 18 => ⟨S16x8, .f32⟩
  | 19 => ⟨S16x8, .f32⟩
  | 20 => ⟨S_, .f32⟩
  | 21 => ⟨S16x8, .f32⟩
  | 22 => ⟨S16x8, .f32⟩
  | 23 => ⟨S16x8, .f32⟩
  | 24 => ⟨S_, .f32⟩
  | 25 => ⟨S16, .f32⟩
  | 26 => ⟨S_, .f32⟩
  | 27 => ⟨S16, .f32⟩
  | 28 => ⟨S16, .f32⟩
  | 29 => ⟨S16x1, .f32⟩
  | 30 => ⟨S16x8, .f32⟩
  | 31 => ⟨S16x8, .f32⟩
  | 32 => ⟨S16x8, .f32⟩
  | 33 => ⟨S_, .f32⟩
  | 34 => ⟨S16, .f32⟩
  | 35 => ⟨S16x1, .f32⟩
  | 36 => ⟨S16x8, .f32⟩
  | 37 => ⟨S16x8, .f32⟩
  | 38 => ⟨S_, .f32⟩
  | 39 => ⟨S16x8, .f32⟩
  | 40 => ⟨S16x8, .f32⟩
  | 41 => ⟨S_, .f32⟩
  | 42 => ⟨S16x8, .f32⟩
  | 43 => ⟨S16x8, .f32⟩
  | 44 => ⟨S16x9, .f32⟩
  | 45 => ⟨S_, .f32⟩
  | 46 => ⟨S16x9, .f32⟩
  | 47 => ⟨S16x9, .f32⟩
  | 48 => ⟨S_, .f32⟩
  | 49 => ⟨S16x9, .f32⟩
  | 50 => ⟨S16x9, .f32⟩
  | 51 => ⟨S16x9, .f32⟩
  | 52 => ⟨S16x9, .f32⟩
  | 53 => ⟨S16x9, .i1⟩
  | 54 => ⟨S16x9, .f32⟩
  | 55 => ⟨S16x9, .f32⟩
  | 56 => ⟨S16x9, .f32⟩
  | 57 => ⟨S16x9, .f32⟩
  | 58 => ⟨S16x9, .f32⟩
  | 59 => ⟨S16x9, .f32⟩
  | 60 => ⟨S16x9, .f32⟩
  | 61 => ⟨S16x9, .f32⟩
  | 62 => ⟨S_, .f32⟩
  | 63 => ⟨S16x9, .f32⟩
  | 64 => ⟨S16x9, .f32⟩
  | 65 => ⟨S_, .f32⟩
  | 66 => ⟨S16x1, .f32⟩
  | 67 => ⟨S_, .f32⟩
  | 68 => ⟨S_, .f32⟩
  | 69 => ⟨S16x8, .f32⟩
  | 70 => ⟨S16x9, .f32⟩
  | 71 => ⟨S_, .f32⟩
  | 72 => ⟨S16x9, .f32⟩
  | 73 => ⟨S16x9, .f32⟩
  | 74 => ⟨S_, .f32⟩
  | 75 => ⟨S_, .f32⟩
  | 76 => ⟨S16x8, .f32⟩
  | 77 => ⟨S16x9, .f32⟩
  | 78 => ⟨S_, .f32⟩
  | 79 => ⟨S16x9, .f32⟩
  | 80 => ⟨S16x9, .f32⟩
  | 81 => ⟨S16x524288, .f32⟩
  | 82 => ⟨S16x524288x1, .f32⟩
  | 83 => ⟨S16x7, .f32⟩
  | 84 => ⟨S16x1x7, .f32⟩
  | 85 => ⟨S16x524288x7, .f32⟩
  | 86 => ⟨S16x524288x7, .f32⟩
  | 87 => ⟨S16x524288x7, .i1⟩
  | 88 => ⟨S16x524288x7, .i32⟩
  | 89 => ⟨S_, .i32⟩
  | 90 => ⟨S16x524288, .i32⟩
  | 91 => ⟨S_, .i32⟩
  | 92 => ⟨S_, .i32⟩
  | 93 => ⟨S_, .i32⟩
  | 94 => ⟨S16x524288, .i32⟩
  | 95 => ⟨S16x524288, .i32⟩
  | 96 => ⟨S_, .i32⟩
  | 97 => ⟨S16x524288, .i32⟩
  | 98 => ⟨S16x524288, .i32⟩
  | 99 => ⟨S_, .i32⟩
  | 100 => ⟨S16x524288, .i32⟩
  | 101 => ⟨S16x524288, .i1⟩
  | 102 => ⟨S_, .i32⟩
  | 103 => ⟨S16x524288, .i32⟩
  | 104 => ⟨S16x524288, .i32⟩
  | 105 => ⟨S16x524288, .i32⟩
  | 106 => ⟨S16x524288x1, .i32⟩
  | 107 => ⟨S16x524288, .f32⟩
  | 108 => ⟨S_, .i32⟩
  | 109 => ⟨S16x524288, .i32⟩
  | 110 => ⟨S16x524288, .i32⟩
  | 111 => ⟨S_, .i32⟩
  | 112 => ⟨S16x524288, .i32⟩
  | 113 => ⟨S16x524288, .i1⟩
  | 114 => ⟨S_, .i32⟩
  | 115 => ⟨S16x524288, .i32⟩
  | 116 => ⟨S16x524288, .i32⟩
  | 117 => ⟨S16x524288, .i32⟩
  | 118 => ⟨S16x524288x1, .i32⟩
  | 119 => ⟨S16x524288, .f32⟩
  | 120 => ⟨S_, .i32⟩
  | 121 => ⟨S16x524288, .i32⟩
  | 122 => ⟨S16x524288, .i1⟩
  | 123 => ⟨S_, .i32⟩
  | 124 => ⟨S16x524288, .i32⟩
  | 125 => ⟨S16x524288, .i32⟩
  | 126 => ⟨S16x524288, .i32⟩
  | 127 => ⟨S16x524288x1, .i32⟩
  | _ => ⟨S524288x16, .f32⟩

abbrev hbmTy0_1 (i : Nat) : BufTy := match i % 128 with
  | 0 => ⟨S16x524288, .f32⟩
  | 1 => ⟨S_, .i32⟩
  | 2 => ⟨S16x524288, .i32⟩
  | 3 => ⟨S16x524288, .i32⟩
  | 4 => ⟨S_, .i32⟩
  | 5 => ⟨S16x524288, .i32⟩
  | 6 => ⟨S16x524288, .i1⟩
  | 7 => ⟨S_, .i32⟩
  | 8 => ⟨S16x524288, .i32⟩
  | 9 => ⟨S16x524288, .i32⟩
  | 10 => ⟨S16x524288, .i32⟩
  | 11 => ⟨S16x524288x1, .i32⟩
  | 12 => ⟨S16x524288, .f32⟩
  | 13 => ⟨S_, .i32⟩
  | 14 => ⟨S16x524288, .i32⟩
  | 15 => ⟨S16x524288, .i1⟩
  | 16 => ⟨S_, .i32⟩
  | 17 => ⟨S16x524288, .i32⟩
  | 18 => ⟨S16x524288, .i32⟩
  | 19 => ⟨S16x524288, .i32⟩
  | 20 => ⟨S16x524288x1, .i32⟩
  | 21 => ⟨S16x524288, .f32⟩
  | 22 => ⟨S_, .i32⟩
  | 23 => ⟨S16x524288, .i32⟩
  | 24 => ⟨S16x524288, .i32⟩
  | 25 => ⟨S_, .i32⟩
  | 26 => ⟨S16x524288, .i32⟩
  | 27 => ⟨S16x524288, .i1⟩
  | 28 => ⟨S_, .i32⟩
  | 29 => ⟨S16x524288, .i32⟩
  | 30 => ⟨S16x524288, .i32⟩
  | 31 => ⟨S16x524288, .i32⟩
  | 32 => ⟨S16x524288x1, .i32⟩
  | 33 => ⟨S16x524288, .f32⟩
  | 34 => ⟨S16x524288, .f32⟩
  | 35 => ⟨S16x524288, .f32⟩
  | 36 => ⟨S16x524288, .f32⟩
  | 37 => ⟨S_, .f32⟩
  | 38 => ⟨S16x524288, .f32⟩
  | 39 => ⟨S16x524288, .f32⟩
  | 40 => ⟨S16x524288, .f32⟩
  | 41 => ⟨S_, .f32⟩
  | 42 => ⟨S_, .f32⟩
  | 43 => ⟨S_, .f32⟩
  | 44 => ⟨S16x524288, .f32⟩
  | 45 => ⟨S16x524288, .f32⟩
  | 46 => ⟨S_, .f32⟩
  | 47 => ⟨S16x524288, .f32⟩
  | 48 => ⟨S16x524288, .f32⟩
  | 49 => ⟨S16x524288, .f32⟩
  | 50 => ⟨S_, .f32⟩
  | 51 => ⟨S16x524288, .f32⟩
  | 52 => ⟨S16x524288, .f32⟩
  | 53 => ⟨S16x524288, .f32⟩
  | 54 => ⟨S16x524288, .f32⟩
  | 55 => ⟨S16x524288, .f32⟩
  | 56 => ⟨S16x524288, .f32⟩
  | 57 => ⟨S_, .f32⟩
  | 58 => ⟨S16x524288, .f32⟩
  | 59 => ⟨S16x524288, .f32⟩
  | 60 => ⟨S16x524288, .f32⟩
  | 61 => ⟨S16x524288, .f32⟩
  | 62 => ⟨S16x524288, .f32⟩
  | 63 => ⟨S_, .f32⟩
  | 64 => ⟨S16x524288, .f32⟩
  | 65 => ⟨S16x524288, .f32⟩
  | 66 => ⟨S16x524288, .f32⟩
  | 67 => ⟨S16x524288, .f32⟩
  | 68 => ⟨S_, .f32⟩
  | 69 => ⟨S16x524288, .f32⟩
  | 70 => ⟨S16x524288, .f32⟩
  | 71 => ⟨S16x524288, .f32⟩
  | 72 => ⟨S16x524288, .f32⟩
  | 73 => ⟨S16x524288, .f32⟩
  | 74 => ⟨S_, .f32⟩
  | 75 => ⟨S16x524288, .f32⟩
  | 76 => ⟨S16x524288, .f32⟩
  | 77 => ⟨S16x524288, .f32⟩
  | 78 => ⟨S16x524288, .f32⟩
  | 79 => ⟨S16x524288, .f32⟩
  | 80 => ⟨S16x524288, .f32⟩
  | 81 => ⟨S16x524288, .f32⟩
  | 82 => ⟨S_, .f32⟩
  | 83 => ⟨S16x524288, .f32⟩
  | 84 => ⟨S16x524288, .f32⟩
  | 85 => ⟨S16x524288, .f32⟩
  | 86 => ⟨S16x524288, .f32⟩
  | 87 => ⟨S16x524288, .f32⟩
  | 88 => ⟨S16x524288, .f32⟩
  | 89 => ⟨S_, .f32⟩
  | 90 => ⟨S16x524288, .f32⟩
  | 91 => ⟨S16x524288, .f32⟩
  | 92 => ⟨S16x524288, .f32⟩
  | 93 => ⟨S16x524288, .f32⟩
  | 94 => ⟨S_, .f32⟩
  | 95 => ⟨S16x524288, .f32⟩
  | 96 => ⟨S16x524288, .f32⟩
  | 97 => ⟨S16x524288, .f32⟩
  | 98 => ⟨S16x524288, .f32⟩
  | 99 => ⟨S16x524288, .f32⟩
  | 100 => ⟨S16x524288, .f32⟩
  | 101 => ⟨S16x524288, .f32⟩
  | 102 => ⟨S16x524288, .f32⟩
  | 103 => ⟨S_, .f32⟩
  | 104 => ⟨S16x524288, .f32⟩
  | 105 => ⟨S16x524288, .f32⟩
  | 106 => ⟨S16x524288, .f32⟩
  | 107 => ⟨S16x1, .f32⟩
  | 108 => ⟨S16, .f32⟩
  | 109 => ⟨S16x1, .f32⟩
  | 110 => ⟨S16, .f32⟩
  | 111 => ⟨S_, .f32⟩
  | 112 => ⟨S524288x16, .f32⟩
  | 113 => ⟨S524288x16, .f32⟩
  | 114 => ⟨S16x524288, .f32⟩
  | 115 => ⟨S16x1, .f32⟩
  | 116 => ⟨S16x524288, .f32⟩
  | 117 => ⟨S16x524288, .f32⟩
  | 118 => ⟨S_, .f32⟩
  | 119 => ⟨S16x524288, .f32⟩
  | 120 => ⟨S16x524288, .f32⟩
  | 121 => ⟨S_, .f32⟩
  | 122 => ⟨S524288x16, .f32⟩
  | 123 => ⟨S524288x16, .f32⟩
  | 124 => ⟨S16x524288, .f32⟩
  | 125 => ⟨S16x1, .f32⟩
  | 126 => ⟨S16x524288, .f32⟩
  | 127 => ⟨S16x524288, .f32⟩
  | _ => ⟨S524288x16, .f32⟩

abbrev hbmTy0_2 (i : Nat) : BufTy := match i % 128 with
  | 0 => ⟨S_, .f32⟩
  | 1 => ⟨S16x524288, .f32⟩
  | 2 => ⟨S16x524288, .f32⟩
  | 3 => ⟨S16, .f32⟩
  | 4 => ⟨S16, .f32⟩
  | 5 => ⟨S_, .f32⟩
  | 6 => ⟨S524288x16, .f32⟩
  | 7 => ⟨S524288x16, .i1⟩
  | 8 => ⟨S_, .f32⟩
  | 9 => ⟨S524288x16, .f32⟩
  | 10 => ⟨S524288x16, .i1⟩
  | 11 => ⟨S16x524288, .i1⟩
  | 12 => ⟨S16x524288, .f32⟩
  | 13 => ⟨S16x524288, .i1⟩
  | 14 => ⟨S16x524288, .f32⟩
  | 15 => ⟨S16x524288, .f32⟩
  | 16 => ⟨S16x524288, .i1⟩
  | 17 => ⟨S16x524288, .f32⟩
  | 18 => ⟨S16x524288, .f32⟩
  | 19 => ⟨S16x524288, .i1⟩
  | 20 => ⟨S16x524288, .f32⟩
  | 21 => ⟨S524288x16, .f32⟩
  | 22 => ⟨S_, .f32⟩
  | 23 => ⟨S524288, .f32⟩
  | _ => ⟨S524288x16, .f32⟩

abbrev hbmTy (i : Nat) : BufTy := match i / 128 with
  | 0 => hbmTy0_0 i
  | 1 => hbmTy0_1 i
  | 2 => hbmTy0_2 i
  | _ => ⟨S524288x16, .f32⟩

abbrev bufTy : (tb : Table) → Fin (tcTables nBuf tb) → BufTy
  | .hbm, ⟨i, _⟩ => hbmTy i
  | _, _ => ⟨S524288x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_4 : Ref sig .tc := ⟨.hbm, 24, rfl⟩
abbrev main_v17 : Ref sig .tc := ⟨.hbm, 25, rfl⟩
abbrev main_cst_5 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_6 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_7 : Ref sig .tc := ⟨.hbm, 38, rfl⟩
abbrev main_v28 : Ref sig .tc := ⟨.hbm, 39, rfl⟩
abbrev main_v29 : Ref sig .tc := ⟨.hbm, 40, rfl⟩
abbrev main_cst_8 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_9 : Ref sig .tc := ⟨.hbm, 45, rfl⟩
abbrev main_v33 : Ref sig .tc := ⟨.hbm, 46, rfl⟩
abbrev main_v34 : Ref sig .tc := ⟨.hbm, 47, rfl⟩
abbrev main_call0_cst : Ref sig .tc := ⟨.hbm, 48, rfl⟩
abbrev main_call0_v0 : Ref sig .tc := ⟨.hbm, 49, rfl⟩
abbrev main_call0_v1 : Ref sig .tc := ⟨.hbm, 50, rfl⟩
abbrev main_call0_v2 : Ref sig .tc := ⟨.hbm, 51, rfl⟩
abbrev main_call0_v3 : Ref sig .tc := ⟨.hbm, 52, rfl⟩
abbrev main_call0_v4 : Ref sig .tc := ⟨.hbm, 53, rfl⟩
abbrev main_call0_v5 : Ref sig .tc := ⟨.hbm, 54, rfl⟩
abbrev main_call0_v6 : Ref sig .tc := ⟨.hbm, 55, rfl⟩
abbrev main_call0_v7 : Ref sig .tc := ⟨.hbm, 56, rfl⟩
abbrev main_call0_v8 : Ref sig .tc := ⟨.hbm, 57, rfl⟩
abbrev main_call0_v9 : Ref sig .tc := ⟨.hbm, 58, rfl⟩
abbrev main_call0_v10 : Ref sig .tc := ⟨.hbm, 59, rfl⟩
abbrev main_call0_v11 : Ref sig .tc := ⟨.hbm, 60, rfl⟩
abbrev main_v35 : Ref sig .tc := ⟨.hbm, 61, rfl⟩
abbrev main_cst_10 : Ref sig .tc := ⟨.hbm, 62, rfl⟩
abbrev main_v36 : Ref sig .tc := ⟨.hbm, 63, rfl⟩
abbrev main_v37 : Ref sig .tc := ⟨.hbm, 64, rfl⟩
abbrev main_cst_11 : Ref sig .tc := ⟨.hbm, 65, rfl⟩
abbrev main_v38 : Ref sig .tc := ⟨.hbm, 66, rfl⟩
abbrev main_call1_call0_cst : Ref sig .tc := ⟨.hbm, 67, rfl⟩
abbrev main_call1_call0_v0 : Ref sig .tc := ⟨.hbm, 68, rfl⟩
abbrev main_v39 : Ref sig .tc := ⟨.hbm, 69, rfl⟩
abbrev main_v40 : Ref sig .tc := ⟨.hbm, 70, rfl⟩
abbrev main_cst_12 : Ref sig .tc := ⟨.hbm, 71, rfl⟩
abbrev main_v41 : Ref sig .tc := ⟨.hbm, 72, rfl⟩
abbrev main_v42 : Ref sig .tc := ⟨.hbm, 73, rfl⟩
abbrev main_call2_call0_cst : Ref sig .tc := ⟨.hbm, 74, rfl⟩
abbrev main_call2_call0_v0 : Ref sig .tc := ⟨.hbm, 75, rfl⟩
abbrev main_v43 : Ref sig .tc := ⟨.hbm, 76, rfl⟩
abbrev main_v44 : Ref sig .tc := ⟨.hbm, 77, rfl⟩
abbrev main_cst_13 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_c : Ref sig .tc := ⟨.hbm, 89, rfl⟩
abbrev main_v55 : Ref sig .tc := ⟨.hbm, 90, rfl⟩
abbrev main_c_14 : Ref sig .tc := ⟨.hbm, 91, rfl⟩
abbrev main_c_15 : Ref sig .tc := ⟨.hbm, 92, rfl⟩
abbrev main_call3_v0 : Ref sig .tc := ⟨.hbm, 93, rfl⟩
abbrev main_call3_v1 : Ref sig .tc := ⟨.hbm, 94, rfl⟩
abbrev main_call3_v2 : Ref sig .tc := ⟨.hbm, 95, rfl⟩
abbrev main_call3_v3 : Ref sig .tc := ⟨.hbm, 96, rfl⟩
abbrev main_call3_v4 : Ref sig .tc := ⟨.hbm, 97, rfl⟩
abbrev main_v56 : Ref sig .tc := ⟨.hbm, 98, rfl⟩
abbrev main_c_16 : Ref sig .tc := ⟨.hbm, 99, rfl⟩
abbrev main_v57 : Ref sig .tc := ⟨.hbm, 100, rfl⟩
abbrev main_v58 : Ref sig .tc := ⟨.hbm, 101, rfl⟩
abbrev main_c_17 : Ref sig .tc := ⟨.hbm, 102, rfl⟩
abbrev main_v59 : Ref sig .tc := ⟨.hbm, 103, rfl⟩
abbrev main_v60 : Ref sig .tc := ⟨.hbm, 104, rfl⟩
abbrev main_v61 : Ref sig .tc := ⟨.hbm, 105, rfl⟩
abbrev main_v62 : Ref sig .tc := ⟨.hbm, 106, rfl⟩
abbrev main_v63 : Ref sig .tc := ⟨.hbm, 107, rfl⟩
abbrev main_c_18 : Ref sig .tc := ⟨.hbm, 108, rfl⟩
abbrev main_v64 : Ref sig .tc := ⟨.hbm, 109, rfl⟩
abbrev main_v65 : Ref sig .tc := ⟨.hbm, 110, rfl⟩
abbrev main_c_19 : Ref sig .tc := ⟨.hbm, 111, rfl⟩
abbrev main_v66 : Ref sig .tc := ⟨.hbm, 112, rfl⟩
abbrev main_v67 : Ref sig .tc := ⟨.hbm, 113, rfl⟩
abbrev main_c_20 : Ref sig .tc := ⟨.hbm, 114, rfl⟩
abbrev main_v68 : Ref sig .tc := ⟨.hbm, 115, rfl⟩
abbrev main_v69 : Ref sig .tc := ⟨.hbm, 116, rfl⟩
abbrev main_v70 : Ref sig .tc := ⟨.hbm, 117, rfl⟩
abbrev main_v71 : Ref sig .tc := ⟨.hbm, 118, rfl⟩
abbrev main_v72 : Ref sig .tc := ⟨.hbm, 119, rfl⟩
abbrev main_c_21 : Ref sig .tc := ⟨.hbm, 120, rfl⟩
abbrev main_v73 : Ref sig .tc := ⟨.hbm, 121, rfl⟩
abbrev main_v74 : Ref sig .tc := ⟨.hbm, 122, rfl⟩
abbrev main_c_22 : Ref sig .tc := ⟨.hbm, 123, rfl⟩
abbrev main_v75 : Ref sig .tc := ⟨.hbm, 124, rfl⟩
abbrev main_v76 : Ref sig .tc := ⟨.hbm, 125, rfl⟩
abbrev main_v77 : Ref sig .tc := ⟨.hbm, 126, rfl⟩
abbrev main_v78 : Ref sig .tc := ⟨.hbm, 127, rfl⟩
abbrev main_v79 : Ref sig .tc := ⟨.hbm, 128, rfl⟩
abbrev main_c_23 : Ref sig .tc := ⟨.hbm, 129, rfl⟩
abbrev main_v80 : Ref sig .tc := ⟨.hbm, 130, rfl⟩
abbrev main_v81 : Ref sig .tc := ⟨.hbm, 131, rfl⟩
abbrev main_c_24 : Ref sig .tc := ⟨.hbm, 132, rfl⟩
abbrev main_v82 : Ref sig .tc := ⟨.hbm, 133, rfl⟩
abbrev main_v83 : Ref sig .tc := ⟨.hbm, 134, rfl⟩
abbrev main_c_25 : Ref sig .tc := ⟨.hbm, 135, rfl⟩
abbrev main_v84 : Ref sig .tc := ⟨.hbm, 136, rfl⟩
abbrev main_v85 : Ref sig .tc := ⟨.hbm, 137, rfl⟩
abbrev main_v86 : Ref sig .tc := ⟨.hbm, 138, rfl⟩
abbrev main_v87 : Ref sig .tc := ⟨.hbm, 139, rfl⟩
abbrev main_v88 : Ref sig .tc := ⟨.hbm, 140, rfl⟩
abbrev main_c_26 : Ref sig .tc := ⟨.hbm, 141, rfl⟩
abbrev main_v89 : Ref sig .tc := ⟨.hbm, 142, rfl⟩
abbrev main_v90 : Ref sig .tc := ⟨.hbm, 143, rfl⟩
abbrev main_c_27 : Ref sig .tc := ⟨.hbm, 144, rfl⟩
abbrev main_v91 : Ref sig .tc := ⟨.hbm, 145, rfl⟩
abbrev main_v92 : Ref sig .tc := ⟨.hbm, 146, rfl⟩
abbrev main_v93 : Ref sig .tc := ⟨.hbm, 147, rfl⟩
abbrev main_v94 : Ref sig .tc := ⟨.hbm, 148, rfl⟩
abbrev main_v95 : Ref sig .tc := ⟨.hbm, 149, rfl⟩
abbrev main_c_28 : Ref sig .tc := ⟨.hbm, 150, rfl⟩
abbrev main_v96 : Ref sig .tc := ⟨.hbm, 151, rfl⟩
abbrev main_v97 : Ref sig .tc := ⟨.hbm, 152, rfl⟩
abbrev main_c_29 : Ref sig .tc := ⟨.hbm, 153, rfl⟩
abbrev main_v98 : Ref sig .tc := ⟨.hbm, 154, rfl⟩
abbrev main_v99 : Ref sig .tc := ⟨.hbm, 155, rfl⟩
abbrev main_c_30 : Ref sig .tc := ⟨.hbm, 156, rfl⟩
abbrev main_v100 : Ref sig .tc := ⟨.hbm, 157, rfl⟩
abbrev main_v101 : Ref sig .tc := ⟨.hbm, 158, rfl⟩
abbrev main_v102 : Ref sig .tc := ⟨.hbm, 159, rfl⟩
abbrev main_v103 : Ref sig .tc := ⟨.hbm, 160, rfl⟩
abbrev main_v104 : Ref sig .tc := ⟨.hbm, 161, rfl⟩
abbrev main_v105 : Ref sig .tc := ⟨.hbm, 162, rfl⟩
abbrev main_v106 : Ref sig .tc := ⟨.hbm, 163, rfl⟩
abbrev main_v107 : Ref sig .tc := ⟨.hbm, 164, rfl⟩
abbrev main_cst_31 : Ref sig .tc := ⟨.hbm, 165, rfl⟩
abbrev main_v108 : Ref sig .tc := ⟨.hbm, 166, rfl⟩
abbrev main_v109 : Ref sig .tc := ⟨.hbm, 167, rfl⟩
abbrev main_v110 : Ref sig .tc := ⟨.hbm, 168, rfl⟩
abbrev main_cst_32 : Ref sig .tc := ⟨.hbm, 169, rfl⟩
abbrev main_cst_33 : Ref sig .tc := ⟨.hbm, 170, rfl⟩
abbrev main_call4_v0 : Ref sig .tc := ⟨.hbm, 171, rfl⟩
abbrev main_call4_v1 : Ref sig .tc := ⟨.hbm, 172, rfl⟩
abbrev main_call4_v2 : Ref sig .tc := ⟨.hbm, 173, rfl⟩
abbrev main_call4_v3 : Ref sig .tc := ⟨.hbm, 174, rfl⟩
abbrev main_call4_v4 : Ref sig .tc := ⟨.hbm, 175, rfl⟩
abbrev main_v111 : Ref sig .tc := ⟨.hbm, 176, rfl⟩
abbrev main_v112 : Ref sig .tc := ⟨.hbm, 177, rfl⟩
abbrev main_cst_34 : Ref sig .tc := ⟨.hbm, 178, rfl⟩
abbrev main_v113 : Ref sig .tc := ⟨.hbm, 179, rfl⟩
abbrev main_v114 : Ref sig .tc := ⟨.hbm, 180, rfl⟩
abbrev main_v115 : Ref sig .tc := ⟨.hbm, 181, rfl⟩
abbrev main_v116 : Ref sig .tc := ⟨.hbm, 182, rfl⟩
abbrev main_v117 : Ref sig .tc := ⟨.hbm, 183, rfl⟩
abbrev main_v118 : Ref sig .tc := ⟨.hbm, 184, rfl⟩
abbrev main_cst_35 : Ref sig .tc := ⟨.hbm, 185, rfl⟩
abbrev main_v119 : Ref sig .tc := ⟨.hbm, 186, rfl⟩
abbrev main_v120 : Ref sig .tc := ⟨.hbm, 187, rfl⟩
abbrev main_v121 : Ref sig .tc := ⟨.hbm, 188, rfl⟩
abbrev main_v122 : Ref sig .tc := ⟨.hbm, 189, rfl⟩
abbrev main_v123 : Ref sig .tc := ⟨.hbm, 190, rfl⟩
abbrev main_cst_36 : Ref sig .tc := ⟨.hbm, 191, rfl⟩
abbrev main_v124 : Ref sig .tc := ⟨.hbm, 192, rfl⟩
abbrev main_v125 : Ref sig .tc := ⟨.hbm, 193, rfl⟩
abbrev main_v126 : Ref sig .tc := ⟨.hbm, 194, rfl⟩
abbrev main_v127 : Ref sig .tc := ⟨.hbm, 195, rfl⟩
abbrev main_cst_37 : Ref sig .tc := ⟨.hbm, 196, rfl⟩
abbrev main_v128 : Ref sig .tc := ⟨.hbm, 197, rfl⟩
abbrev main_v129 : Ref sig .tc := ⟨.hbm, 198, rfl⟩
abbrev main_v130 : Ref sig .tc := ⟨.hbm, 199, rfl⟩
abbrev main_v131 : Ref sig .tc := ⟨.hbm, 200, rfl⟩
abbrev main_v132 : Ref sig .tc := ⟨.hbm, 201, rfl⟩
abbrev main_cst_38 : Ref sig .tc := ⟨.hbm, 202, rfl⟩
abbrev main_v133 : Ref sig .tc := ⟨.hbm, 203, rfl⟩
abbrev main_v134 : Ref sig .tc := ⟨.hbm, 204, rfl⟩
abbrev main_v135 : Ref sig .tc := ⟨.hbm, 205, rfl⟩
abbrev main_v136 : Ref sig .tc := ⟨.hbm, 206, rfl⟩
abbrev main_v137 : Ref sig .tc := ⟨.hbm, 207, rfl⟩
abbrev main_v138 : Ref sig .tc := ⟨.hbm, 208, rfl⟩
abbrev main_v139 : Ref sig .tc := ⟨.hbm, 209, rfl⟩
abbrev main_cst_39 : Ref sig .tc := ⟨.hbm, 210, rfl⟩
abbrev main_v140 : Ref sig .tc := ⟨.hbm, 211, rfl⟩
abbrev main_v141 : Ref sig .tc := ⟨.hbm, 212, rfl⟩
abbrev main_v142 : Ref sig .tc := ⟨.hbm, 213, rfl⟩
abbrev main_v143 : Ref sig .tc := ⟨.hbm, 214, rfl⟩
abbrev main_v144 : Ref sig .tc := ⟨.hbm, 215, rfl⟩
abbrev main_v145 : Ref sig .tc := ⟨.hbm, 216, rfl⟩
abbrev main_cst_40 : Ref sig .tc := ⟨.hbm, 217, rfl⟩
abbrev main_v146 : Ref sig .tc := ⟨.hbm, 218, rfl⟩
abbrev main_v147 : Ref sig .tc := ⟨.hbm, 219, rfl⟩
abbrev main_v148 : Ref sig .tc := ⟨.hbm, 220, rfl⟩
abbrev main_v149 : Ref sig .tc := ⟨.hbm, 221, rfl⟩
abbrev main_cst_41 : Ref sig .tc := ⟨.hbm, 222, rfl⟩
abbrev main_v150 : Ref sig .tc := ⟨.hbm, 223, rfl⟩
abbrev main_v151 : Ref sig .tc := ⟨.hbm, 224, rfl⟩
abbrev main_v152 : Ref sig .tc := ⟨.hbm, 225, rfl⟩
abbrev main_v153 : Ref sig .tc := ⟨.hbm, 226, rfl⟩
abbrev main_v154 : Ref sig .tc := ⟨.hbm, 227, rfl⟩
abbrev main_v155 : Ref sig .tc := ⟨.hbm, 228, rfl⟩
abbrev main_v156 : Ref sig .tc := ⟨.hbm, 229, rfl⟩
abbrev main_v157 : Ref sig .tc := ⟨.hbm, 230, rfl⟩
abbrev main_cst_42 : Ref sig .tc := ⟨.hbm, 231, rfl⟩
abbrev main_v158 : Ref sig .tc := ⟨.hbm, 232, rfl⟩
abbrev main_v159 : Ref sig .tc := ⟨.hbm, 233, rfl⟩
abbrev main_v160 : Ref sig .tc := ⟨.hbm, 234, rfl⟩
abbrev main_v161 : Ref sig .tc := ⟨.hbm, 235, rfl⟩
abbrev main_v162 : Ref sig .tc := ⟨.hbm, 236, rfl⟩
abbrev main_v163 : Ref sig .tc := ⟨.hbm, 237, rfl⟩
abbrev main_v164 : Ref sig .tc := ⟨.hbm, 238, rfl⟩
abbrev main_cst_43 : Ref sig .tc := ⟨.hbm, 239, rfl⟩
abbrev main_v165 : Ref sig .tc := ⟨.hbm, 240, rfl⟩
abbrev main_v166 : Ref sig .tc := ⟨.hbm, 241, rfl⟩
abbrev main_v167 : Ref sig .tc := ⟨.hbm, 242, rfl⟩
abbrev main_v168 : Ref sig .tc := ⟨.hbm, 243, rfl⟩
abbrev main_v169 : Ref sig .tc := ⟨.hbm, 244, rfl⟩
abbrev main_v170 : Ref sig .tc := ⟨.hbm, 245, rfl⟩
abbrev main_cst_44 : Ref sig .tc := ⟨.hbm, 246, rfl⟩
abbrev main_v171 : Ref sig .tc := ⟨.hbm, 247, rfl⟩
abbrev main_v172 : Ref sig .tc := ⟨.hbm, 248, rfl⟩
abbrev main_cst_45 : Ref sig .tc := ⟨.hbm, 249, rfl⟩
abbrev main_v173 : Ref sig .tc := ⟨.hbm, 250, rfl⟩
abbrev main_v174 : Ref sig .tc := ⟨.hbm, 251, rfl⟩
abbrev main_v175 : Ref sig .tc := ⟨.hbm, 252, rfl⟩
abbrev main_v176 : Ref sig .tc := ⟨.hbm, 253, rfl⟩
abbrev main_v177 : Ref sig .tc := ⟨.hbm, 254, rfl⟩
abbrev main_v178 : Ref sig .tc := ⟨.hbm, 255, rfl⟩
abbrev main_cst_46 : Ref sig .tc := ⟨.hbm, 256, rfl⟩
abbrev main_v179 : Ref sig .tc := ⟨.hbm, 257, rfl⟩
abbrev main_v180 : Ref sig .tc := ⟨.hbm, 258, rfl⟩
abbrev main_v181 : Ref sig .tc := ⟨.hbm, 259, rfl⟩
abbrev main_v182 : Ref sig .tc := ⟨.hbm, 260, rfl⟩
abbrev main_cst_47 : Ref sig .tc := ⟨.hbm, 261, rfl⟩
abbrev main_v183 : Ref sig .tc := ⟨.hbm, 262, rfl⟩
abbrev main_v184 : Ref sig .tc := ⟨.hbm, 263, rfl⟩
abbrev main_cst_48 : Ref sig .tc := ⟨.hbm, 264, rfl⟩
abbrev main_v185 : Ref sig .tc := ⟨.hbm, 265, rfl⟩
abbrev main_v186 : Ref sig .tc := ⟨.hbm, 266, rfl⟩
abbrev main_call5_v0 : Ref sig .tc := ⟨.hbm, 267, rfl⟩
abbrev main_v187 : Ref sig .tc := ⟨.hbm, 268, rfl⟩
abbrev main_call6_v0 : Ref sig .tc := ⟨.hbm, 269, rfl⟩
abbrev main_v188 : Ref sig .tc := ⟨.hbm, 270, rfl⟩
abbrev main_call7_v0 : Ref sig .tc := ⟨.hbm, 271, rfl⟩
abbrev main_call7_v1 : Ref sig .tc := ⟨.hbm, 272, rfl⟩
abbrev main_v189 : Ref sig .tc := ⟨.hbm, 273, rfl⟩
abbrev main_call8_v0 : Ref sig .tc := ⟨.hbm, 274, rfl⟩
abbrev main_call8_v1 : Ref sig .tc := ⟨.hbm, 275, rfl⟩
abbrev main_v190 : Ref sig .tc := ⟨.hbm, 276, rfl⟩
abbrev main_v191 : Ref sig .tc := ⟨.hbm, 277, rfl⟩
abbrev main_cst_49 : Ref sig .tc := ⟨.hbm, 278, rfl⟩
abbrev main_v192 : Ref sig .tc := ⟨.hbm, 279, rfl⟩

abbrev nD : Nat := 1
abbrev τ : Topo := Topo.v7x

variable {F : FTy → Type} [FloatOps F]
-- ==== Proof.Launched.lean ====
/-
  The kernel program's run, with its two results: every weakly fair execution of `@main` ends with each result buffer
  at the contents the fold through the segments gives it (`W4`), and both arguments as launched.
-/
module

public import proofs.«01_k».proof.Proof.Gen.KernelIdeal.Frame

@[expose] public section

noncomputable section

namespace Cert.KernelIdeal.Value

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch rule's implicit arguments are found by unifying its conclusion with this one, which unfolds plain
-- definitions in a metavariable's type
set_option backward.isDefEq.respectTransparency.types false in
/-- Every execution ends with `y` (`main_v3`) and `ld` (`main_v2_1`) at the last boundary's contents and the two
    arguments unchanged: the launch of the frame, read at four buffers. -/
theorem run : θ_run defs (onTc (τ := τ) (main (F := F))) ⟨m, fun _ => 0, ρ⟩ (fun r => ∀ c : Dev nD,
      r.2.mem ((c.tc : Thread nD τ).loc main_v3) = W4 m ρ c (Proc.devRef .tc main_v3)
      ∧ r.2.mem ((c.tc : Thread nD τ).loc main_v2_1) = W4 m ρ c (Proc.devRef .tc main_v2_1)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ => fun c =>
      ⟨h c _ (mem_uc main_v3 (by decide)), h c _ (mem_uc main_v2_1 (by decide)),
       (h c _ (mem_uc main_arg0 (by decide))).trans (W4_main_arg0 m ρ c),
       (h c _ (mem_uc main_arg1 (by decide))).trans (W4_main_arg1 m ρ c)⟩)

end Cert.KernelIdeal.Value

end
-- ==== Proof.Params.lean ====
/-
  The spline's knots, slopes and bin sizes as functions of one dimension's row of parameters.
-/
module

public import Idealize.ShloMosaic.Lib.Pointwise

@[expose] public section

set_option maxRecDepth 16384

noncomputable section

namespace Cert.Spline

open Idealize.ShloMosaic

/-- The largest of a row of eight logits, as both programs take it. -/
def top (z : Fin 8 → EReal) : EReal :=
  max (Ideal.ofBits .f32 0xFF800000#32)
    (Finset.univ.fold max (Ideal.ofBits .f32 0xFF800000#32) z)

/-- The bin sizes of a row of eight logits: the softmax of the row, scaled and raised to its floor. -/
def soft (z : Fin 8 → EReal) (j : Fin 8) : EReal :=
  Ideal.div (Ideal.exp (z j - top z)) (∑ i, Ideal.exp (z i - top z))
      * Ideal.ofBits .f32 0x40BFF972#32
    + Ideal.ofBits .f32 0x38D1B717#32

/-- The knots of a row of bin sizes: they start at −3 and each adds the next size. -/
def knot (w : Fin 8 → EReal) : ℕ → EReal
  | 0 => Ideal.ofBits .f32 0xC0400000#32
  | n + 1 => knot w n + if h : n < 8 then w ⟨n, h⟩ else 0

/-- The slope at a knot: softplus of the shifted logit, raised to its floor. -/
def slopeOf (z : EReal) : EReal :=
  max (z + Ideal.ofBits .f32 0x3F0A89E6#32) 0
    + Ideal.log1p (Ideal.exp
        (-FloatOps.absf (F := Ideal) (φ := .f32) (z + Ideal.ofBits .f32 0x3F0A89E6#32)))
    + Ideal.ofBits .f32 0x38D1B717#32

/-- The widths of the bins of one dimension, out of its row of twenty-five parameters. -/
def wid (p : Fin 25 → EReal) : Fin 8 → EReal := soft fun j => p ⟨j.val, by omega⟩

/-- The heights of the bins of one dimension, out of its row of parameters. -/
def hei (p : Fin 25 → EReal) : Fin 8 → EReal := soft fun j => p ⟨8 + j.val, by omega⟩

/-- The slopes at the knots of one dimension, out of its row of parameters. -/
def slo (p : Fin 25 → EReal) (j : Fin 9) : EReal := slopeOf (p ⟨16 + j.val, by omega⟩)

/-- One row of the table the kernel builds: nine knots across, the first eight knots up, nine slopes,
the inverses of the eight widths, the eight heights, and six zeros. -/
def tab (p : Fin 25 → EReal) (j : Fin 48) : EReal :=
  if _ : j.val < 9 then knot (wid p) j.val
  else if _ : j.val < 17 then knot (hei p) (j.val - 9)
  else if h : j.val < 26 then slo p ⟨j.val - 17, by omega⟩
  else if h : j.val < 34 then
    Ideal.div 1 (wid p ⟨j.val - 26, by omega⟩ + Ideal.ofBits .f32 0x322BCC77#32)
  else if h : j.val < 42 then hei p ⟨j.val - 34, by omega⟩
  else 0

end Cert.Spline
-- ==== Proof.Table.lean ====
/-
  The first launch's table, read at an element: the columns of row `d` from row `d` of the parameters.
-/
module

public import proofs.«01_k».proof.Proof.Gen.KernelIdeal.Frame
public import proofs.«01_k».proof.Proof.Params

@[expose] public section

set_option maxRecDepth 16384

noncomputable section

namespace Cert.KernelIdeal.Value

open Cert.KernelIdeal Cert.KernelIdeal.Gen
open Idealize.ShloMosaic Idealize.ShloMosaic.TcCoe Idealize.ShloMosaic.Tactic
open Cert.Spline

variable (p : Vec Ideal S16x25 .f32) (d : Fin 16)

/-- The widths the first kernel computes are those of the row of parameters. -/
theorem pay2_at (j : Fin 8) : k0_pay2 p (ix2 d j) = wid (fun i => p (ix2 d i)) j := by
  unfold_payloads
  pointwise []
  rfl

/-- The heights the first kernel computes are those of the row of parameters. -/
theorem pay3_at (j : Fin 8) : k0_pay3 p (ix2 d j) = hei (fun i => p (ix2 d i)) j := by
  unfold_payloads
  pointwise []
  rfl

/-- The table the first kernel writes, one row for each dimension. -/
theorem table_at (j : Fin 48) :
    k0_pay1 (k0_pay2 p) (k0_pay3 p) (k0_pay5 p) (k0_pay7 p) (k0_pay8 p) (k0_pay9 p)
      (k0_pay10 (F := Ideal)) (ix2 d j) = tab (fun i => p (ix2 d i)) j := by
  have hw := pay2_at p d
  have hh := pay3_at p d
  generalize k0_pay2 p = w at hw ⊢
  generalize k0_pay3 p = h at hh ⊢
  unfold_payloads
  pointwise []
  fin_vals j with hk
  all_goals
    simp only [hk, Nat.reduceSub, Nat.reduceLT, Nat.reduceAdd, ↓reduceDIte]
    simp [tab, knot, slo, slopeOf, hw, hh, hk]

end Cert.KernelIdeal.Value
-- ==== Proof.Spline.lean ====
/-
  The spline at one element, in extended reals: the bin an input falls into, and the kernel's value and slope as
  functions of the table's row.
-/
module

public import Idealize.ShloMosaic.Lib.Pointwise

@[expose] public section

noncomputable section

namespace Cert.Spline

open Idealize.ShloMosaic

/-- The number of the bin of `x`: the last of the inner knots `e 1 … e 7` that `x` has reached, 0 if it has reached none. -/
def bin (e : Fin 8 → EReal) (x : EReal) : Fin 8 :=
  if e 7 ≤ x then 7 else if e 6 ≤ x then 6 else if e 5 ≤ x then 5 else if e 4 ≤ x then 4
  else if e 3 ≤ x then 3 else if e 2 ≤ x then 2 else if e 1 ≤ x then 1 else 0

/-- The chain of comparisons that replaces `v 0` by `v j` from each reached knot on ends with the bin's entry of `v`. -/
theorem chain_eq (e v : Fin 8 → EReal) (x : EReal) :
    (if e 7 ≤ x then v 7 else if e 6 ≤ x then v 6 else if e 5 ≤ x then v 5 else if e 4 ≤ x then v 4
      else if e 3 ≤ x then v 3 else if e 2 ≤ x then v 2 else if e 1 ≤ x then v 1 else v 0) = v (bin e x) := by
  unfold bin; split_ifs <;> rfl

/-- The entry of the eight columns from `o` on that the chain of comparisons with the knots (columns 1 to 7) ends with. -/
def pick (T : Fin 48 → EReal) (o : Nat) (ho : o + 8 ≤ 48) (x : EReal) : EReal :=
  if T 7 ≤ x then T ⟨o + 7, by omega⟩ else if T 6 ≤ x then T ⟨o + 6, by omega⟩ else if T 5 ≤ x then T ⟨o + 5, by omega⟩
  else if T 4 ≤ x then T ⟨o + 4, by omega⟩ else if T 3 ≤ x then T ⟨o + 3, by omega⟩ else if T 2 ≤ x then T ⟨o + 2, by omega⟩
  else if T 1 ≤ x then T ⟨o + 1, by omega⟩ else T ⟨o, by omega⟩

/-! ## The kernel's element: from the table row `T` of its dimension and the input `x` -/

/-- The bin's height times the inverse of its width. -/
def kS (T : Fin 48 → EReal) (x : EReal) : EReal := pick T 34 (by decide) x * pick T 26 (by decide) x
/-- The place in the bin, from 0 to 1. -/
def kXi (T : Fin 48 → EReal) (x : EReal) : EReal := min 1 (max 0 ((x - pick T 0 (by decide) x) * pick T 26 (by decide) x))
/-- The place times its complement. -/
def kU (T : Fin 48 → EReal) (x : EReal) : EReal := kXi T x * (1 - kXi T x)
/-- The denominator before it is kept away from zero. -/
def kDen0 (T : Fin 48 → EReal) (x : EReal) : EReal :=
  kS T x + (pick T 18 (by decide) x + pick T 17 (by decide) x - Ideal.ofBits .f32 0x40000000#32 * kS T x) * kU T x
/-- One over the denominator kept away from zero, its sign by comparisons. -/
def kR (T : Fin 48 → EReal) (x : EReal) : EReal :=
  Ideal.div 1 (max (FloatOps.absf (F := Ideal) (φ := .f32) (kDen0 T x)) (Ideal.ofBits .f32 0x322BCC77#32)
    * if 0 < FloatOps.absf (F := Ideal) (φ := .f32) (kDen0 T x) then if kDen0 T x < 0 then Ideal.ofBits .f32 0xBF800000#32 else 1 else kDen0 T x)
/-- The spline's value inside the range. -/
def kIn (T : Fin 48 → EReal) (x : EReal) : EReal :=
  pick T 9 (by decide) x + pick T 34 (by decide) x * ((kS T x * (kXi T x * kXi T x) + pick T 17 (by decide) x * kU T x) * kR T x)
/-- The spline's derivative inside the range, at least the floor. -/
def kDeriv (T : Fin 48 → EReal) (x : EReal) : EReal :=
  max ((kS T x * kS T x * (pick T 18 (by decide) x * (kXi T x * kXi T x) + Ideal.ofBits .f32 0x40000000#32 * kS T x * kU T x
    + pick T 17 (by decide) x * ((1 - kXi T x) * (1 - kXi T x)))) * kR T x * kR T x) (Ideal.ofBits .f32 0x322BCC77#32)
/-- The kernel's value: linear beyond either end of the range. -/
def kY (T : Fin 48 → EReal) (x : EReal) : EReal :=
  if x < Ideal.ofBits .f32 0xC0400000#32 then (x - Ideal.ofBits .f32 0xC0400000#32) * T 17 + Ideal.ofBits .f32 0xC0400000#32
  else if Ideal.ofBits .f32 0x40400000#32 < x then (x - Ideal.ofBits .f32 0x40400000#32) * T 25 + Ideal.ofBits .f32 0x40400000#32
  else kIn T x
/-- The kernel's slope at the element. -/
def kD (T : Fin 48 → EReal) (x : EReal) : EReal :=
  if x < Ideal.ofBits .f32 0xC0400000#32 then T 17 else if Ideal.ofBits .f32 0x40400000#32 < x then T 25 else kDeriv T x

end Cert.Spline

end
-- ==== Proof.Trip.lean ====
/-
  One trip of the kernel's loop over chunks, read at an element: each value of the trip at dimension `d` and lane `l`
  from the table's row `d` and the input there.
-/
module

public import proofs.«01_k».proof.Proof.Gen.KernelIdeal.Frame
public import proofs.«01_k».proof.Proof.Spline
public import Idealize.ShloMosaic.Lib.Pointwise

@[expose] public section

set_option maxRecDepth 16384

noncomputable section

namespace Cert.KernelIdeal.Value

open Cert.KernelIdeal Cert.KernelIdeal.Gen
open Idealize.ShloMosaic Idealize.ShloMosaic.TcCoe Idealize.ShloMosaic.Tactic
open Cert.Spline

variable (arg2 : Memref sig .tc .vmem S16x4096 .f32) (v0 : Vec Ideal S16x48 .f32) (X : BufTy.Contents (Elt Ideal) arg2.view.ty)
  (k : Fin k1_t1_loop.trips) (d : Fin 16) (l : Fin 256)

/-- The input element of chunk `k` at dimension `d` and lane `l`. -/
def xAt : EReal := View.readAt (Elt Ideal) arg2.view (Rect.unit (s := S16x4096) (k1_off1 k) ![16, 256] (k1_off1_inb k)).toLoadRect X (ix2 d l)

/-- Row `d` of the table. -/
def row (d : Fin 16) : Fin 48 → EReal := fun j => v0 (ix2 d j)

theorem r_at : trip_k1_t1.sl.r arg2 X k (ix2 d l) = xAt arg2 X k d l := by
  unfold trip_k1_t1.sl.r
  unfold_payloads
  pointwise []
  rfl

theorem r_1_at : trip_k1_t1.sl.r_1 arg2 v0 X k (ix2 d l) = BitVec.ofBool (decide (row v0 d 1 ≤ xAt arg2 X k d l)) := by
  unfold trip_k1_t1.sl.r_1
  unfold_payloads
  pointwise []
  rfl

theorem r_2_at : trip_k1_t1.sl.r_2 arg2 v0 X k (ix2 d l) = BitVec.ofBool (decide (row v0 d 2 ≤ xAt arg2 X k d l)) := by
  unfold trip_k1_t1.sl.r_2
  unfold_payloads
  pointwise []
  rfl

theorem r_3_at : trip_k1_t1.sl.r_3 arg2 v0 X k (ix2 d l) = BitVec.ofBool (decide (row v0 d 3 ≤ xAt arg2 X k d l)) := by
  unfold trip_k1_t1.sl.r_3
  unfold_payloads
  pointwise []
  rfl

theorem r_4_at : trip_k1_t1.sl.r_4 arg2 v0 X k (ix2 d l) = BitVec.ofBool (decide (row v0 d 4 ≤ xAt arg2 X k d l)) := by
  unfold trip_k1_t1.sl.r_4
  unfold_payloads
  pointwise []
  rfl

theorem r_5_at : trip_k1_t1.sl.r_5 arg2 v0 X k (ix2 d l) = BitVec.ofBool (decide (row v0 d 5 ≤ xAt arg2 X k d l)) := by
  unfold trip_k1_t1.sl.r_5
  unfold_payloads
  pointwise []
  rfl

theorem r_6_at : trip_k1_t1.sl.r_6 arg2 v0 X k (ix2 d l) = BitVec.ofBool (decide (row v0 d 6 ≤ xAt arg2 X k d l)) := by
  unfold trip_k1_t1.sl.r_6
  unfold_payloads
  pointwise []
  rfl

theorem r_7_at : trip_k1_t1.sl.r_7 arg2 v0 X k (ix2 d l) = BitVec.ofBool (decide (row v0 d 7 ≤ xAt arg2 X k d l)) := by
  unfold trip_k1_t1.sl.r_7
  unfold_payloads
  pointwise []
  rfl

/-- The bin's height. -/
theorem r_11_at : trip_k1_t1.sl.r_11 arg2 v0 X k (ix2 d l) = pick (row v0 d) 34 (by decide) (xAt arg2 X k d l) := by
  unfold trip_k1_t1.sl.r_11
  unfold_payloads
  pointwise [r_1_at, r_2_at, r_3_at, r_4_at, r_5_at, r_6_at, r_7_at]
  rfl

/-- The bin's lower knot in `x`. -/
theorem r_8_at : trip_k1_t1.sl.r_8 arg2 v0 X k (ix2 d l) = pick (row v0 d) 0 (by decide) (xAt arg2 X k d l) := by
  unfold trip_k1_t1.sl.r_8
  unfold_payloads
  pointwise [r_1_at, r_2_at, r_3_at, r_4_at, r_5_at, r_6_at, r_7_at]
  rfl

/-- The bin's lower knot in `y`. -/
theorem v107_at : trip_k1_t1.sl.v107 arg2 v0 X k (ix2 d l) = pick (row v0 d) 9 (by decide) (xAt arg2 X k d l) := by
  unfold trip_k1_t1.sl.v107 trip_k1_t1.sl.v106 trip_k1_t1.sl.v105 trip_k1_t1.sl.v104 trip_k1_t1.sl.v103 trip_k1_t1.sl.v102 trip_k1_t1.sl.v101 trip_k1_t1.sl.r_9 trip_k1_t1.sl.r_10
  unfold_payloads
  pointwise [r_1_at, r_2_at, r_3_at, r_4_at, r_5_at, r_6_at, r_7_at]
  rfl

/-- The slope at the bin's lower knot. -/
theorem v130_at : trip_k1_t1.sl.v130 arg2 v0 X k (ix2 d l) = pick (row v0 d) 17 (by decide) (xAt arg2 X k d l) := by
  unfold trip_k1_t1.sl.v130 trip_k1_t1.sl.v129 trip_k1_t1.sl.v128 trip_k1_t1.sl.v127 trip_k1_t1.sl.v126 trip_k1_t1.sl.v125 trip_k1_t1.sl.v124 trip_k1_t1.sl.v123 trip_k1_t1.sl.v122 trip_k1_t1.sl.v121 trip_k1_t1.sl.v120 trip_k1_t1.sl.v119 trip_k1_t1.sl.v118 trip_k1_t1.sl.v117 trip_k1_t1.sl.v116 trip_k1_t1.sl.v115 trip_k1_t1.sl.v114 trip_k1_t1.sl.v113 trip_k1_t1.sl.v112 trip_k1_t1.sl.v111 trip_k1_t1.sl.v110 trip_k1_t1.sl.v109 trip_k1_t1.sl.v108
  unfold_payloads
  pointwise [r_1_at, r_2_at, r_3_at, r_4_at, r_5_at, r_6_at, r_7_at]
  rfl

/-- The slope at the bin's upper knot. -/
theorem v153_at : trip_k1_t1.sl.v153 arg2 v0 X k (ix2 d l) = pick (row v0 d) 18 (by decide) (xAt arg2 X k d l) := by
  unfold trip_k1_t1.sl.v153 trip_k1_t1.sl.v152 trip_k1_t1.sl.v151 trip_k1_t1.sl.v150 trip_k1_t1.sl.v147 trip_k1_t1.sl.v144 trip_k1_t1.sl.v141 trip_k1_t1.sl.v138 trip_k1_t1.sl.v135 trip_k1_t1.sl.v129 trip_k1_t1.sl.v126 trip_k1_t1.sl.v123 trip_k1_t1.sl.v120 trip_k1_t1.sl.v117 trip_k1_t1.sl.v114 trip_k1_t1.sl.v111 trip_k1_t1.sl.v128 trip_k1_t1.sl.v125 trip_k1_t1.sl.v122 trip_k1_t1.sl.v119 trip_k1_t1.sl.v116 trip_k1_t1.sl.v113 trip_k1_t1.sl.v110
  unfold_payloads
  pointwise [r_1_at, r_2_at, r_3_at, r_4_at, r_5_at, r_6_at, r_7_at]
  rfl

/-- The place in the bin's complement. -/
theorem r_13_at : trip_k1_t1.sl.r_13 arg2 v0 X k (ix2 d l) = 1 - kXi (row v0 d) (xAt arg2 X k d l) := by
  unfold trip_k1_t1.sl.r_13 trip_k1_t1.sl.v160 trip_k1_t1.sl.v159 trip_k1_t1.sl.v158 trip_k1_t1.sl.v157 trip_k1_t1.sl.v156 trip_k1_t1.sl.v155 trip_k1_t1.sl.v154
  unfold_payloads
  pointwise [r_at, r_8_at, r_1_at, r_2_at, r_3_at, r_4_at, r_5_at, r_6_at, r_7_at]
  rfl

/-- The place times its complement. -/
theorem r_14_at : trip_k1_t1.sl.r_14 arg2 v0 X k (ix2 d l) = kU (row v0 d) (xAt arg2 X k d l) := by
  unfold trip_k1_t1.sl.r_14 trip_k1_t1.sl.v160 trip_k1_t1.sl.v159 trip_k1_t1.sl.v158 trip_k1_t1.sl.v157 trip_k1_t1.sl.v156 trip_k1_t1.sl.v155 trip_k1_t1.sl.v154
  unfold_payloads
  pointwise [r_at, r_8_at, r_1_at, r_2_at, r_3_at, r_4_at, r_5_at, r_6_at, r_7_at]
  rfl

/-- The place squared. -/
theorem r_15_at : trip_k1_t1.sl.r_15 arg2 v0 X k (ix2 d l) = kXi (row v0 d) (xAt arg2 X k d l) * kXi (row v0 d) (xAt arg2 X k d l) := by
  unfold trip_k1_t1.sl.r_15 trip_k1_t1.sl.v160 trip_k1_t1.sl.v159 trip_k1_t1.sl.v158 trip_k1_t1.sl.v157 trip_k1_t1.sl.v156 trip_k1_t1.sl.v155 trip_k1_t1.sl.v154
  unfold_payloads
  pointwise [r_at, r_8_at, r_1_at, r_2_at, r_3_at, r_4_at, r_5_at, r_6_at, r_7_at]
  rfl

/-- Height over width. -/
theorem r_12_at : trip_k1_t1.sl.r_12 arg2 v0 X k (ix2 d l) = kS (row v0 d) (xAt arg2 X k d l) := by
  unfold trip_k1_t1.sl.r_12 trip_k1_t1.sl.v160 trip_k1_t1.sl.v159 trip_k1_t1.sl.v158 trip_k1_t1.sl.v157 trip_k1_t1.sl.v156 trip_k1_t1.sl.v155 trip_k1_t1.sl.v154
  unfold_payloads
  pointwise [r_at, r_8_at, r_1_at, r_2_at, r_3_at, r_4_at, r_5_at, r_6_at, r_7_at]
  rfl

/-- The value's numerator. -/
theorem r_16_at : trip_k1_t1.sl.r_16 arg2 v0 X k (ix2 d l) = kS (row v0 d) (xAt arg2 X k d l) * (kXi (row v0 d) (xAt arg2 X k d l) * kXi (row v0 d) (xAt arg2 X k d l)) + pick (row v0 d) 17 (by decide) (xAt arg2 X k d l) * kU (row v0 d) (xAt arg2 X k d l) := by
  unfold trip_k1_t1.sl.r_16 trip_k1_t1.sl.v160 trip_k1_t1.sl.v159 trip_k1_t1.sl.v158 trip_k1_t1.sl.v157 trip_k1_t1.sl.v156 trip_k1_t1.sl.v155 trip_k1_t1.sl.v154
  unfold_payloads
  pointwise [r_at, r_8_at, r_1_at, r_2_at, r_3_at, r_4_at, r_5_at, r_6_at, r_7_at, v130_at]
  rfl

/-- The sum of the bin's two slopes. -/
theorem r_17_at : trip_k1_t1.sl.r_17 arg2 v0 X k (ix2 d l) = pick (row v0 d) 18 (by decide) (xAt arg2 X k d l) + pick (row v0 d) 17 (by decide) (xAt arg2 X k d l) := by
  unfold trip_k1_t1.sl.r_17
  unfold_payloads
  pointwise [r_at, r_8_at, r_1_at, r_2_at, r_3_at, r_4_at, r_5_at, r_6_at, r_7_at, v130_at, v153_at]

/-- Twice height over width. -/
theorem r_18_at : trip_k1_t1.sl.r_18 arg2 v0 X k (ix2 d l) = Ideal.ofBits .f32 0x40000000#32 * kS (row v0 d) (xAt arg2 X k d l) := by
  unfold trip_k1_t1.sl.r_18 trip_k1_t1.sl.v160 trip_k1_t1.sl.v159 trip_k1_t1.sl.v158 trip_k1_t1.sl.v157 trip_k1_t1.sl.v156 trip_k1_t1.sl.v155 trip_k1_t1.sl.v154
  unfold_payloads
  pointwise [r_at, r_8_at, r_1_at, r_2_at, r_3_at, r_4_at, r_5_at, r_6_at, r_7_at]
  rfl

/-- The value inside the range. -/
theorem r_19_at : trip_k1_t1.sl.r_19 arg2 v0 X k (ix2 d l) = kIn (row v0 d) (xAt arg2 X k d l) := by
  unfold trip_k1_t1.sl.r_19
  unfold_payloads
  pointwise [v107_at, v130_at, v153_at, r_11_at, r_12_at, r_13_at, r_14_at, r_15_at, r_16_at, r_17_at, r_18_at]
  rfl

/-- The derivative inside the range. -/
theorem r_20_at : trip_k1_t1.sl.r_20 arg2 v0 X k (ix2 d l) = kDeriv (row v0 d) (xAt arg2 X k d l) := by
  unfold trip_k1_t1.sl.r_20
  unfold_payloads
  pointwise [v107_at, v130_at, v153_at, r_11_at, r_12_at, r_13_at, r_14_at, r_15_at, r_16_at, r_17_at, r_18_at]
  rfl

/-- Whether the input is below the range. -/
theorem r_21_at : trip_k1_t1.sl.r_21 arg2 X k (ix2 d l) = BitVec.ofBool (decide (xAt arg2 X k d l < Ideal.ofBits .f32 0xC0400000#32)) := by
  unfold trip_k1_t1.sl.r_21
  unfold_payloads
  pointwise [r_at]

/-- Whether the input is above the range. -/
theorem r_22_at : trip_k1_t1.sl.r_22 arg2 X k (ix2 d l) = BitVec.ofBool (decide (Ideal.ofBits .f32 0x40400000#32 < xAt arg2 X k d l)) := by
  unfold trip_k1_t1.sl.r_22
  unfold_payloads
  pointwise [r_at]

/-- The first slope. -/
theorem r_23_at : trip_k1_t1.sl.r_23 v0 (ix2 d l) = row v0 d 17 := by
  unfold trip_k1_t1.sl.r_23
  unfold_payloads
  pointwise []
  rfl

/-- The last slope. -/
theorem r_24_at : trip_k1_t1.sl.r_24 v0 (ix2 d l) = row v0 d 25 := by
  unfold trip_k1_t1.sl.r_24
  unfold_payloads
  pointwise []
  rfl

/-- The line below the range. -/
theorem r_25_at : trip_k1_t1.sl.r_25 arg2 v0 X k (ix2 d l) = (xAt arg2 X k d l - Ideal.ofBits .f32 0xC0400000#32) * row v0 d 17 + Ideal.ofBits .f32 0xC0400000#32 := by
  unfold trip_k1_t1.sl.r_25
  unfold_payloads
  pointwise [r_at]
  rfl

/-- The input past the range's upper end. -/
theorem r_26_at : trip_k1_t1.sl.r_26 arg2 X k (ix2 d l) = xAt arg2 X k d l - Ideal.ofBits .f32 0x40400000#32 := by
  unfold trip_k1_t1.sl.r_26
  unfold_payloads
  pointwise [r_at]

/-- The chunk of `y` that the trip stores. -/
theorem pay43_at : k1_pay43 (trip_k1_t1.sl.r_19 arg2 v0 X k) (trip_k1_t1.sl.r_21 arg2 X k) (trip_k1_t1.sl.r_22 arg2 X k) (trip_k1_t1.sl.r_24 v0) (trip_k1_t1.sl.r_25 arg2 v0 X k)
      (trip_k1_t1.sl.r_26 arg2 X k) (ix2 d l) = kY (row v0 d) (xAt arg2 X k d l) := by
  unfold_payloads
  pointwise [r_19_at, r_21_at, r_22_at, r_24_at, r_25_at, r_26_at]
  rfl

/-- The chunk of `ld` that the trip stores: the sum over the dimensions of the slopes' logarithms. -/
theorem pay44_at : k1_pay44 (trip_k1_t1.sl.r_20 arg2 v0 X k) (trip_k1_t1.sl.r_21 arg2 X k) (trip_k1_t1.sl.r_22 arg2 X k) (trip_k1_t1.sl.r_23 v0) (trip_k1_t1.sl.r_24 v0) (ix1 l)
      = ∑ d : Fin 16, Ideal.log (kD (row v0 d) (xAt arg2 X k d l)) := by
  unfold_payloads
  pointwise [r_20_at, r_21_at, r_22_at, r_23_at, r_24_at]
  rfl

end Cert.KernelIdeal.Value

end
-- ==== Proof.Block.lean ====
/-
  The second launch's blocks, read at an element: what the kernel body leaves at dimension `d` and lane `l` of `y` and
  at lane `l` of `ld`, from the table and the block of inputs.
-/
module

public import proofs.«01_k».proof.Proof.Trip
public import Idealize.ShloMosaic.Lib.Pipeline.ValueKit

@[expose] public section

set_option maxRecDepth 16384

noncomputable section

namespace Cert.KernelIdeal.Value

open Cert.KernelIdeal Cert.KernelIdeal.Gen
open Idealize.ShloMosaic Idealize.ShloMosaic.TcCoe Idealize.ShloMosaic.Tactic
open Cert.Spline

variable (c : Dev nD) (i : grid1.Coords) (arg1 : Memref sig .tc .vmem S16x48 .f32) (harg1 : arg1.IsWhole)
  (arg2 : Memref sig .tc .vmem S16x4096 .f32) (harg2 : arg2.IsWhole) (arg3 : Memref sig .tc .vmem S16x4096 .f32) (harg3 : arg3.IsWhole)
  (arg4 : Memref sig .tc .vmem S4096 .f32) (harg4 : arg4.IsWhole)

/-- A trip's input element is the block's element under the chunk's place. -/
theorem xAt_unread (x1 : Vec Ideal S16x4096 .f32) (k : Fin k1_t1_loop.trips) (d : Fin 16) (l : Fin 256) :
    xAt arg2 (harg2.unread x1) k d l = x1 ((Rect.unit (s := S16x4096) (k1_off1 k) ![16, 256] (k1_off1_inb k)).idx (ix2 d l)) := by
  unfold xAt
  rw [View.readAt_eq_ld, harg2.read_unread]

/-- Every chunk of `y` that the first `n` trips store holds the spline's value at each element it covers. -/
theorem allAt_y (v0 : Vec Ideal S16x48 .f32) (x1 : Vec Ideal S16x4096 .f32) (d : Fin 16) (l : Fin 4096) (n : ℕ) :
    View.AllAt (pb_k1_t1 (F := Ideal) Variants.none c none i arg1 harg1 arg2 harg2 arg3 harg3 arg4 harg4 v0 (harg2.unread x1) n).1
      (ix2 d l) (kY (row v0 d) (x1 (ix2 d l))) := by
  induction n with
  | zero => exact View.allAt_nil _ _
  | succ n ih =>
    by_cases h : n < k1_t1_loop.trips
    · rw [pb_k1_t1_succ _ _ _ _ _ _ _ _ _ _ _ _ _ _ ⟨n, h⟩]
      intro p hp x hx
      rcases List.mem_append.mp hp with hp | hp
      · unfold tripL_k1_t1 trip_k1_t1 at hp
        dsimp only at hp
        obtain rfl := List.mem_singleton.mp hp
        rw [← hx]
        obtain ⟨d', l', rfl⟩ : ∃ (d' : Fin 16) (l' : Fin 256), x = ix2 d' l' := ⟨x 0, x 1, eq_ix2 x⟩
        refine (pay43_at arg2 v0 (harg2.unread x1) ⟨n, h⟩ d' l').trans ?_
        rw [xAt_unread]
        have hd : d' = d := by
          have h0 : 0 + 1 * d'.val = d.val := congrArg (fun j => (j 0).val) hx
          exact Fin.ext (by omega)
        subst hd
        rfl
      · exact ih p hp x hx
    · rw [pb_k1_t1.eq_2]
      unfold pb_k1_t1Step
      rw [dif_neg h]
      exact ih

/-- Every chunk of `ld` that the first `n` trips store holds the sum of the slopes' logarithms at each lane it covers. -/
theorem allAt_ld (v0 : Vec Ideal S16x48 .f32) (x1 : Vec Ideal S16x4096 .f32) (l : Fin 4096) (n : ℕ) :
    View.AllAt (pb_k1_t1 (F := Ideal) Variants.none c none i arg1 harg1 arg2 harg2 arg3 harg3 arg4 harg4 v0 (harg2.unread x1) n).2
      (ix1 l) (∑ d : Fin 16, Ideal.log (kD (row v0 d) (x1 (ix2 d l)))) := by
  induction n with
  | zero => exact View.allAt_nil _ _
  | succ n ih =>
    by_cases h : n < k1_t1_loop.trips
    · rw [pb_k1_t1_succ _ _ _ _ _ _ _ _ _ _ _ _ _ _ ⟨n, h⟩]
      intro p hp x hx
      rcases List.mem_append.mp hp with hp | hp
      · unfold tripL_k1_t1 trip_k1_t1 at hp
        dsimp only at hp
        obtain rfl := List.mem_singleton.mp hp
        obtain ⟨l', rfl⟩ : ∃ l' : Fin 256, x = ix1 l' := ⟨x 0, eq_ix1 x⟩
        refine (pay44_at arg2 v0 (harg2.unread x1) ⟨n, h⟩ l').trans ?_
        refine Finset.sum_congr rfl fun d _ => ?_
        rw [xAt_unread]
        congr 3
        funext a
        refine Fin.ext ?_
        match a with
        | ⟨0, _⟩ => show 0 + 1 * d.val = d.val; omega
        | ⟨1, _⟩ => exact congrArg (fun j => (j 0).val) hx
      · exact ih p hp x hx
    · rw [pb_k1_t1.eq_2]
      unfold pb_k1_t1Step
      rw [dif_neg h]
      exact ih

/-- The body's load of the table is the table. -/
theorem table_read (x0 : Vec Ideal S16x48 .f32) :
    View.readAt (Elt Ideal) arg1.view (Rect.unit (s := S16x48) ![0, 0] S16x48.size inb_S16x48_S16x48_0_0).toLoadRect
      (harg1.unread x0) = x0 := by
  rw [View.readAt_eq_ld, harg1.read_unread]
  exact View.ld_unit_lit' _ _ (by decide)

/-- The block of `y` the kernel body leaves. -/
theorem out_y_at (x0 : Vec Ideal S16x48 .f32) (x1 : Vec Ideal S16x4096 .f32) (d : Fin 16) (l : Fin 4096) :
    out1_A_2 c i arg1 harg1 arg2 harg2 arg3 harg3 arg4 harg4 x0 x1 (ix2 d l) = kY (row x0 d) (x1 (ix2 d l)) := by
  unfold out1_A_2
  rw [View.read_writes_junk_eq_canon]
  refine View.canon_eq_of_allAt _ _ _ (cover1_A_2 c i arg1 harg1 arg2 harg2 arg3 harg3 arg4 harg4 x0 x1 _) ?_
  have key : ∀ v0, v0 = x0 → ∀ n, View.AllAt
      (pb_k1_t1 (F := Ideal) Variants.none c none i arg1 harg1 arg2 harg2 arg3 harg3 arg4 harg4 v0 (harg2.unread x1) n).1
      (ix2 d l) (kY (row x0 d) (x1 (ix2 d l))) := by
    rintro _ rfl n
    exact allAt_y c i arg1 harg1 arg2 harg2 arg3 harg3 arg4 harg4 _ x1 d l n
  unfold kernelRun1_A
  exact key _ (table_read arg1 harg1 x0) _

/-- The block of `ld` the kernel body leaves. -/
theorem out_ld_at (x0 : Vec Ideal S16x48 .f32) (x1 : Vec Ideal S16x4096 .f32) (l : Fin 4096) :
    out1_A_3 c i arg1 harg1 arg2 harg2 arg3 harg3 arg4 harg4 x0 x1 (ix1 l)
      = ∑ d : Fin 16, Ideal.log (kD (row x0 d) (x1 (ix2 d l))) := by
  unfold out1_A_3
  rw [View.read_writes_junk_eq_canon]
  refine View.canon_eq_of_allAt _ _ _ (cover1_A_3 c i arg1 harg1 arg2 harg2 arg3 harg3 arg4 harg4 x0 x1 _) ?_
  have key : ∀ v0, v0 = x0 → ∀ n, View.AllAt
      (pb_k1_t1 (F := Ideal) Variants.none c none i arg1 harg1 arg2 harg2 arg3 harg3 arg4 harg4 v0 (harg2.unread x1) n).2
      (ix1 l) (∑ d : Fin 16, Ideal.log (kD (row x0 d) (x1 (ix2 d l)))) := by
    rintro _ rfl n
    exact allAt_ld c i arg1 harg1 arg2 harg2 arg3 harg3 arg4 harg4 _ x1 l n
  unfold kernelRun1_A
  exact key _ (table_read arg1 harg1 x0) _

end Cert.KernelIdeal.Value
-- ==== Proof.Arrays.lean ====
/-
  The kernel program's buffers at the end: the table, `y` before the last transpose, and `ld`, as arrays over the two
  arguments.
-/
module

public import proofs.«01_k».proof.Proof.Table
public import proofs.«01_k».proof.Proof.Block

@[expose] public section

set_option maxRecDepth 16384

noncomputable section

namespace Cert.KernelIdeal.Value

open Cert.KernelIdeal Cert.KernelIdeal.Gen
open Idealize.ShloMosaic Idealize.ShloMosaic.TcCoe Idealize.ShloMosaic.Tactic
open Idealize.ShloMosaic.Pipeline (Dat)
open Cert.Spline

/-- The table of a parameter array: row `d` from row `d` of the parameters. -/
def tabOf (p : FVec Ideal S16x25 .f32) : FVec Ideal S16x48 .f32 := fun j => tab (fun i => p (ix2 (j 0) i)) (j 1)

section
variable (V : (c : Dev nD) → (b : Ref sig .tc) → Buf (Elt Ideal) ((c : Thread nD τ).loc b))

/-- The first launch's window of the parameters does not move. -/
theorem idx0 : ∀ t : Fin cfg0.N, win0_0.index t = ![0, 0] ∧ win0_1.index t = ![0, 0] :=
  (by decide +kernel : ∀ t : Fin grid0.N, _)

/-- The first launch leaves the table of the parameters. -/
theorem table_final (c : Dev nD) : (dat0 V c).arrAt 1 cfg0.N = tabOf (V c main_arg1) := by
  refine (dat0 V c).arrAt_eq_of_after_last 1 t0_0 (by decide +kernel) _ fun j => ?_
  blk_simp
  rw [after0_1]
  frame_out
  obtain ⟨d, i, rfl⟩ : ∃ (d : Fin 16) (i : Fin 48), j = ix2 d i := ⟨j 0, j 1, eq_ix2 j⟩
  have hb : iblk0 V c 0 t0_0 = V c main_arg1 := by blk_ext! [iblk0, idx0 t0_0]
  rw [hb]
  exact table_at (V c main_arg1) d i

/-- The second launch's windows at each point: the table does not move, the others are at the point's block of columns. -/
theorem idx1 : ∀ t : Fin cfg1.N, win1_0.index t = ![0, 0] ∧ win1_1.index t = ![0, t.val] ∧ win1_2.index t = ![0, t.val]
    ∧ win1_3.index t = ![t.val] :=
  (by decide +kernel : ∀ t : Fin grid1.N, _)

/-- At every point the second launch's first block is the whole table. -/
theorem iblk1_table (c : Dev nD) (t : Fin cfg1.N) : iblk1 V c 0 t = V c main_v1 := by blk_ext! [iblk1, idx1 t]

/-- The second launch leaves the spline's value of every input element. -/
theorem y_final (c : Dev nD) : (dat1 V c).arrAt 2 cfg1.N
    = fun j : S16x524288.Idx => kY (row (V c main_v1) (j 0)) (V c main_v0 j) := by
  refine (dat1 V c).arrAt_eq_of_covers 2 _ (by decide +kernel) fun t _ y => ?_
  blk_simp
  rw [after1_2]
  obtain ⟨d, l, rfl⟩ : ∃ (d : Fin 16) (l : Fin 4096), y = ix2 d l := ⟨y 0, y 1, eq_ix2 y⟩
  unfold outsAt1
  refine (out_y_at c (grid1.coords t) (ms1_0 t) (hs1_0 t) (ms1_1 t) (hs1_1 t) (ms1_2 t) (hs1_2 t) (ms1_3 t) (hs1_3 t)
    (iblk1 V c 0 t) (iblk1 V c 1 t) d l).trans ?_
  rw [iblk1_table]
  have hx : (iblk1 V c 1 t : FVec Ideal S16x4096 .f32) (ix2 d l) = V c main_v0 ((win1_2.blk t).view.emb (ix2 d l)) := by
    blk_ext [iblk1, idx1 t]
  have hd : ((win1_2.blk t).view.emb (ix2 d l) 0 : Fin 16) = d := by
    refine Fin.ext ?_
    blk_simp [idx1 t]
  rw [hx]
  exact congrArg (fun e => kY (row (V c main_v1) e) _) hd.symm

/-- The second launch leaves, for every row of the input, the sum of the logarithms of the slopes. -/
theorem ld_final (c : Dev nD) : (dat1 V c).arrAt 3 cfg1.N
    = fun j : S524288.Idx => ∑ d : Fin 16, Ideal.log (kD (row (V c main_v1) d)
        ((V c main_v0 : FVec Ideal S16x524288 .f32) (ix2 d (j 0)))) := by
  refine (dat1 V c).arrAt_eq_of_covers 3 _ (by decide +kernel) fun t _ y => ?_
  blk_simp
  rw [after1_3]
  obtain ⟨l, rfl⟩ : ∃ l : Fin 4096, y = ix1 l := ⟨y 0, eq_ix1 y⟩
  unfold outsAt1
  refine (out_ld_at c (grid1.coords t) (ms1_0 t) (hs1_0 t) (ms1_1 t) (hs1_1 t) (ms1_2 t) (hs1_2 t) (ms1_3 t) (hs1_3 t)
    (iblk1 V c 0 t) (iblk1 V c 1 t) l).trans ?_
  rw [iblk1_table]
  refine Finset.sum_congr rfl fun d _ => congrArg (fun x => Ideal.log (kD (row (V c main_v1) d) x)) ?_
  blk_ext [iblk1, idx1 t]

end

variable (m : (ℓ : Loc nD τ sig) → Buf (Elt Ideal) ℓ) (ρ : Dev nD → PrngReg)

/-- The transposed input as the second launch finds it. -/
theorem x_in (c : Dev nD) (d : Fin 16) (n : Fin 524288) :
    (V2 m ρ c main_v0 : FVec Ideal S16x524288 .f32) (ix2 d n)
      = (m ((c : Thread nD τ).loc main_arg0) : FVec Ideal S524288x16 .f32) (ix2 n d) := by
  have h : V2 m ρ c main_v0 = W1 m ρ c (Proc.devRef .tc main_v0) :=
    W2_of_ne m ρ c main_v0 (by decide)
  rw [h]
  simp only [W1, hostOps0, StableHlo.after_cons, StableHlo.after_nil]
  rw [StableHlo.unary_result]
  pointwise []

/-- The table as the second launch finds it. -/
theorem table_in (c : Dev nD) : V2 m ρ c main_v1 = tabOf (m ((c : Thread nD τ).loc main_arg1)) := by
  refine (W2_arr m ρ c 1).trans ((table_final (V1 m ρ) c).trans ?_)
  exact congrArg tabOf (W1_args m ρ c main_arg1 (by decide))

/-- `ld` at the end. -/
theorem ld_end (c : Dev nD) (n : Fin 524288) :
    (W4 m ρ c (Proc.devRef .tc main_v2_1) : FVec Ideal S524288 .f32) (ix1 n)
      = ∑ d : Fin 16, Ideal.log (kD (tab fun i => (m ((c : Thread nD τ).loc main_arg1) : FVec Ideal S16x25 .f32) (ix2 d i))
          ((m ((c : Thread nD τ).loc main_arg0) : FVec Ideal S524288x16 .f32) (ix2 n d))) := by
  refine (congrFun ((W4_of m ρ c main_v2_1 (by decide)).trans ((W3_arr m ρ c 3).trans (ld_final (V2 m ρ) c))) (ix1 n)).trans ?_
  refine Finset.sum_congr (M := EReal) rfl fun d _ => ?_
  rw [table_in]
  exact congrArg (fun x => Ideal.log (kD (tab fun i => (m ((c : Thread nD τ).loc main_arg1) : FVec Ideal S16x25 .f32) (ix2 d i)) x)) (x_in m ρ c d n)

/-- `y` at the end. -/
theorem y_end (c : Dev nD) (n : Fin 524288) (d : Fin 16) :
    (W4 m ρ c (Proc.devRef .tc main_v3) : FVec Ideal S524288x16 .f32) (ix2 n d)
      = kY (tab fun i => (m ((c : Thread nD τ).loc main_arg1) : FVec Ideal S16x25 .f32) (ix2 d i))
          ((m ((c : Thread nD τ).loc main_arg0) : FVec Ideal S524288x16 .f32) (ix2 n d)) := by
  have h : (W4 m ρ c (Proc.devRef .tc main_v3) : FVec Ideal S524288x16 .f32) (ix2 n d)
      = (W3 m ρ c (Proc.devRef .tc main_v2_0) : FVec Ideal S16x524288 .f32) (ix2 d n) := by
    simp only [W4, hostOps2, StableHlo.after_cons, StableHlo.after_nil]
    rw [StableHlo.unary_result]
    pointwise []
  refine h.trans ((congrFun ((W3_arr m ρ c 2).trans (y_final (V2 m ρ) c)) (ix2 d n)).trans ?_)
  rw [table_in]
  exact congrArg (kY (tab fun i => (m ((c : Thread nD τ).loc main_arg1) : FVec Ideal S16x25 .f32) (ix2 d i))) (x_in m ρ c d n)

end Cert.KernelIdeal.Value
-- ==== Proof.RefValue.lean ====
/-
  The reference read at an element: its bin sizes, knots and slopes are those of the row of parameters, its bin number
  is the count of reached inner knots, and its gathers read the row at that number.
-/
module

public import proofs.«01_k».proof.Proof.Gen.ReferenceIdeal.Run
public import proofs.«01_k».proof.Proof.Params
public import Idealize.ShloMosaic.Lib.Routing.Ops
public import Idealize.ShloMosaic.Lib.Tactic.CleanTypes

@[expose] public section

set_option maxRecDepth 16384

noncomputable section

namespace Cert.ReferenceIdeal.Value

open Cert.ReferenceIdeal Cert.ReferenceIdeal.Gen
open Idealize.ShloMosaic Idealize.ShloMosaic.TcCoe Idealize.SL.Sem Idealize.ShloMosaic.StableHlo
open Cert.Spline

/-- A sum folded over the positions of a window of eight is the sum folded over the numbers below eight. -/
theorem foldl_window (M : ℕ) (hM : M = 8) (g : Fin M → EReal) (f : ℕ → EReal) (hg : ∀ n, g n = f n.val) :
    (List.finRange M).foldl (fun r n => r + g n) 0 = ((List.range 8).map f).foldl (· + ·) 0 := by
  subst hM
  rw [← Routing.map_finRange_val, List.foldl_map]
  simp only [hg]

/-- A running sum over a row of eight, started at −3: the knots. -/
theorem window_at (w : FVec Ideal S16x8 .f32) (init : FVec Ideal S_ .f32) (hinit : init ix0 = (0 : EReal)) (d : Fin 16) (j : Fin 8) :
    (Host.reduceWindowAdd ![1, 8] ![1, 1] ![0, 7] ![0, 0] w init reduceWindows_S16x8_S16x8_w1s1p0_0_w8s1p7_0 h_S_ (ix2 d j) : EReal)
        + Ideal.ofBits .f32 0xC0400000#32
      = knot (fun i => w (ix2 d i)) (j.val + 1) := by
  have hv : init (Shape.Idx.first h_S_) = (0 : EReal) := (congrArg init (funext fun a => a.elim0)).trans hinit
  have hj := j.isLt
  have hfold : (Host.reduceWindowAdd ![1, 8] ![1, 1] ![0, 7] ![0, 0] w init reduceWindows_S16x8_S16x8_w1s1p0_0_w8s1p7_0 h_S_ (ix2 d j) : EReal)
      = ((List.range 8).map fun n => if h : 7 ≤ j.val + n ∧ j.val + n - 7 < 8 then (w (ix2 d ⟨j.val + n - 7, h.2⟩) : EReal) else 0).foldl (· + ·) 0 := by
    unfold Host.reduceWindowAdd
    rw [Ideal.hostReduceWindowAdd_def]
    unfold Ideal.hostReduceWindowAdd Host.reduceWindow
    rw [hv]
    refine foldl_window _ (Routing.numel2 8) _ _ fun n => ?_
    have hn : n.val < 8 := (n.cast (Routing.numel2 8)).isLt
    have hw0 : ((Routing.shape2 1 8).rowMajor.symm n 0).val = 0 := by rw [Routing.symm2]; rfl
    have hw : ((Routing.shape2 1 8).rowMajor.symm n 1).val = n.val := by rw [Routing.symm2]; rfl
    refine dite_congr (propext ⟨fun hin => ?_, fun h => fun a => ?_⟩) (fun h => ?_) (fun _ => rfl)
    · have h1 := hin 1
      change 7 ≤ j.val * 1 + ((Routing.shape2 1 8).rowMajor.symm n 1).val
        ∧ j.val * 1 + ((Routing.shape2 1 8).rowMajor.symm n 1).val - 7 < 8 at h1
      rw [hw] at h1
      omega
    · match a with
      | ⟨0, _⟩ =>
        show 0 ≤ d.val * 1 + ((Routing.shape2 1 8).rowMajor.symm n 0).val ∧ d.val * 1 + ((Routing.shape2 1 8).rowMajor.symm n 0).val - 0 < 16
        rw [hw0]
        omega
      | ⟨1, _⟩ =>
        show 7 ≤ j.val * 1 + ((Routing.shape2 1 8).rowMajor.symm n 1).val
          ∧ j.val * 1 + ((Routing.shape2 1 8).rowMajor.symm n 1).val - 7 < 8
        rw [hw]
        omega
    · refine congrArg w (funext fun a => Fin.ext ?_)
      match a with
      | ⟨0, _⟩ =>
        show d.val * 1 + ((Routing.shape2 1 8).rowMajor.symm n 0).val - 0 = d.val
        rw [hw0]
        omega
      | ⟨1, _⟩ =>
        show j.val * 1 + ((Routing.shape2 1 8).rowMajor.symm n 1).val - 7 = j.val + n.val - 7
        rw [hw, Nat.mul_one]
  rw [hfold]
  fin_vals j with hk
  all_goals
    simp [List.range_succ, hk, knot]
    ac_rfl

/-- The gather along the last axis of a table of nine columns, read at an element. -/
theorem gather_at (A : FVec Ideal S16x9 .f32) (idx : IVec S16x524288x1 32) (d : Fin 16) (n : Fin 524288) :
    Host.gather gather_S16x9_S16x524288x1_S16x524288_n_1_0_0_1_2_11 A idx (ix2 d n)
      = A (ix2 d ⟨min (idx (ix3 d n 0)).toInt.toNat (9 - 1), by omega⟩) := by
  unfold Host.gather
  congr 1
  funext a
  refine Fin.ext ?_
  show gather_S16x9_S16x524288x1_S16x524288_n_1_0_0_1_2_11.start (ix2 d n) idx a
    + gather_S16x9_S16x524288x1_S16x524288_n_1_0_0_1_2_11.batchCoord (ix2 d n) a
    + gather_S16x9_S16x524288x1_S16x524288_n_1_0_0_1_2_11.offCoord (ix2 d n) a = _
  have h01 : a = 0 ∨ a = 1 := by
    match a with
    | ⟨0, _⟩ => exact Or.inl rfl
    | ⟨1, _⟩ => exact Or.inr rfl
  rcases h01 with rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 2) ∈ gather_S16x9_S16x524288x1_S16x524288_n_1_0_0_1_2_11.operandBatchingDims from List.mem_singleton.mpr rfl)]
    rfl
  · rw [GatherDims.batchCoord_eq_zero _ _ _ (fun h => by simp [gather_S16x9_S16x524288x1_S16x524288_n_1_0_0_1_2_11] at h),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ gather_S16x9_S16x524288x1_S16x524288_n_1_0_0_1_2_11.startIndexMap from List.mem_singleton.mpr rfl)]
    have hsi : gather_S16x9_S16x524288x1_S16x524288_n_1_0_0_1_2_11.siIdx (ix2 d n)
        ⟨List.idxOf (1 : Fin 2) gather_S16x9_S16x524288x1_S16x524288_n_1_0_0_1_2_11.startIndexMap,
          List.idxOf_lt_length_iff.2 (List.mem_singleton.mpr rfl)⟩ = ix3 d n 0 := by
      funext b; refine Fin.ext ?_
      match b with
      | ⟨0, _⟩ => rfl
      | ⟨1, _⟩ => rfl
      | ⟨2, _⟩ => rfl
    rw [hsi]
    rfl

/-- The reference's gather at the numbers `w`, where `w` holds a small natural: the table's column of that number. -/
theorem take_at (A : FVec Ideal S16x9 .f32) (w : IVec S16x524288 32) (d : Fin 16) (n : Fin 524288) (k : Fin 9)
    (hk : w (ix2 d n) = BitVec.ofNat 32 k.val) :
    Host.gather gather_S16x9_S16x524288x1_S16x524288_n_1_0_0_1_2_11 A
        (broadcastInDim S16x524288x1 ![0, 1] bcast_S16x524288_S16x524288x1_0_1
          (select (cmpi .slt w (broadcastInDim S16x524288 ![] bcast_S_S16x524288 (constantI S_ 32 0#32)))
            (addi w (broadcastInDim S16x524288 ![] bcast_S_S16x524288 (constantI S_ 32 9#32))) w)) (ix2 d n)
      = A (ix2 d k) := by
  refine (gather_at A _ d n).trans ?_
  congr 2
  refine Fin.ext ?_
  show min (BitVec.toInt _).toNat 8 = k.val
  pointwise []
  rw [hk]
  clear hk
  revert k
  decide

variable (V : Valuation τ sig (Elt Ideal)) (d : Fin 16)

/-- The row of parameters of dimension `d`. -/
abbrev par : Fin 25 → EReal := fun i => (V (Proc.devRef .tc main_arg1) : FVec Ideal S16x25 .f32) (ix2 d i)

/-- The exponentials of the width logits, shifted by the largest. -/
theorem v7_at (j : Fin 8) : (res_main_v7 V (ix2 d j) : EReal)
    = Ideal.exp (par V d ⟨j.val, by omega⟩ - top fun i => par V d ⟨i.val, by omega⟩) := by
  unfold res_main_v7 res_main_v0
  clean_types
  pointwise []
  rfl

/-- The exponentials of the height logits, shifted by the largest. -/
theorem v23_at (j : Fin 8) : (res_main_v23 V (ix2 d j) : EReal)
    = Ideal.exp (par V d ⟨8 + j.val, by omega⟩ - top fun i => par V d ⟨8 + i.val, by omega⟩) := by
  unfold res_main_v23 res_main_v16
  clean_types
  pointwise []
  rfl

/-- The slopes. -/
theorem v37_at (j : Fin 9) : (res_main_v37 V (ix2 d j) : EReal) = slo (par V d) j := by
  unfold res_main_v37 res_main_call0_v3 res_main_v34 res_main_call0_cst
  clean_types
  pointwise []
  simp [slo, slopeOf]

/-- A table of knots, read at a column: the running sums of the sizes `w`, from −3 on. -/
theorem knots_at (w : FVec Ideal S16x8 .f32) (d : Fin 16) (j : Fin 9) :
    (addf (concatenate S16x9 1 [⟨S16x1, res_main_v38 V⟩, ⟨S16x8, Host.reduceWindowAdd ![1, 8] ![1, 1] ![0, 7] ![0, 0] w
        (broadcastInDim S_ ![] bcast_S_S_ (constant S_ .f32 0x00000000#32)) reduceWindows_S16x8_S16x8_w1s1p0_0_w8s1p7_0 h_S_⟩]
        concatenates_S16x1_S16x8_S16x9_d1) (broadcastInDim S16x9 ![] bcast_S_S16x9 (constant S_ .f32 0xC0400000#32)) (ix2 d j) : EReal)
      = knot (fun i => w (ix2 d i)) j.val := by
  unfold res_main_v38
  pointwise []
  by_cases h : j.val < 1
  · rw [dif_pos h]
    obtain rfl : j = 0 := Fin.ext (by omega)
    simp [knot]
  · rw [dif_neg h]
    refine (window_at w _ (by pointwise []) d ⟨j.val - 1, by omega⟩).trans ?_
    exact congrArg (knot _) (by show j.val - 1 + 1 = j.val; omega)

/-- The knots across. -/
theorem v42_at (j : Fin 9) : (res_main_v42 V (ix2 d j) : EReal) = knot (wid (par V d)) j.val := by
  unfold res_main_v42
  refine (knots_at V _ d j).trans (congrArg (fun w => knot w j.val) (funext fun i => ?_))
  pointwise [v7_at]
  rfl

/-- The knots up. -/
theorem v46_at (j : Fin 9) : (res_main_v46 V (ix2 d j) : EReal) = knot (hei (par V d)) j.val := by
  unfold res_main_v46
  refine (knots_at V _ d j).trans (congrArg (fun w => knot w j.val) (funext fun i => ?_))
  pointwise [v23_at]
  rfl

/-- The number of inner knots that `x` has reached. -/
def cnt (p : Fin 25 → EReal) (x : EReal) : ℕ := ∑ j : Fin 7, if knot (wid p) (1 + j.val) ≤ x then 1 else 0

theorem cnt_le (p : Fin 25 → EReal) (x : EReal) : cnt p x ≤ 7 :=
  (Finset.sum_le_card_nsmul _ _ 1 fun _ _ => by split_ifs <;> omega).trans (by simp)

variable (n : Fin 524288)

/-- The input element of row `n` and dimension `d`. -/
abbrev inp : EReal := (V (Proc.devRef .tc main_arg0) : FVec Ideal S524288x16 .f32) (ix2 n d)

/-- A sum of comparison words is the count of the comparisons that hold. -/
theorem fold_count {ι : Type} [DecidableEq ι] (s : Finset ι) (q : ι → Prop) [DecidablePred q] :
    s.fold IntOp.addi 0#32 (fun x => BitVec.setWidth 32 (BitVec.ofBool (decide (q x))))
      = BitVec.ofNat 32 (∑ x ∈ s, if q x then 1 else 0) := by
  induction s using Finset.induction_on with
  | empty => rfl
  | insert a s ha ih =>
    rw [Finset.fold_insert ha, ih, Finset.sum_insert ha, BitVec.ofNat_add]
    by_cases h : q a
    · simp [h, IntOp.addi]
    · simp [h, IntOp.addi]

/-- The clamp to the range of bins leaves a bin number as it is. -/
theorem clamp_bin (k : ℕ) (hk : k ≤ 7) : IntOp.minsi 7#32 (IntOp.maxsi 0#32 (BitVec.ofNat 32 k)) = BitVec.ofNat 32 k := by
  interval_cases k <;> decide

/-- The bin number. -/
theorem v56_at : res_main_v56 V (ix2 d n) = BitVec.ofNat 32 (cnt (par V d) (inp V d n)) := by
  unfold res_main_v56
  clean_types
  pointwise [v42_at]
  exact (congrArg (fun w => IntOp.minsi 7#32 (IntOp.maxsi 0#32 w))
    (fold_count Finset.univ fun j : Fin 7 => knot (wid (par V d)) (1 + j.val) ≤ inp V d n)).trans (clamp_bin _ (cnt_le _ _))

/-- The bin number, among nine columns. -/
abbrev lo : Fin 9 := ⟨cnt (par V d) (inp V d n), by have := cnt_le (par V d) (inp V d n); omega⟩

/-- The next number, among nine columns. -/
abbrev hi : Fin 9 := ⟨cnt (par V d) (inp V d n) + 1, by have := cnt_le (par V d) (inp V d n); omega⟩

/-- The number after the bin's, in words. -/
theorem succ_word : IntOp.addi (res_main_v56 V (ix2 d n)) 1#32 = BitVec.ofNat 32 (hi V d n).val := by
  rw [v56_at]
  show BitVec.ofNat 32 _ + 1#32 = BitVec.ofNat 32 (_ + 1)
  rw [BitVec.ofNat_add]

/-- The number after the bin's, as the widths' gather uses it. -/
theorem v65_at : res_main_v65 V (ix2 d n) = BitVec.ofNat 32 (hi V d n).val := succ_word V d n

/-- The number after the bin's, as the heights' gather uses it. -/
theorem v81_at : res_main_v81 V (ix2 d n) = BitVec.ofNat 32 (hi V d n).val := succ_word V d n

/-- The number after the bin's, as the slopes' gather uses it. -/
theorem v97_at : res_main_v97 V (ix2 d n) = BitVec.ofNat 32 (hi V d n).val := succ_word V d n

/-- The bin's left knot. -/
theorem v63_at : (res_main_v63 V (ix2 d n) : EReal) = knot (wid (par V d)) (lo V d n).val := by
  unfold res_main_v63
  exact (take_at _ _ d n (lo V d n) (v56_at V d n)).trans (v42_at V d _)

/-- The bin's lower knot. -/
theorem v79_at : (res_main_v79 V (ix2 d n) : EReal) = knot (hei (par V d)) (lo V d n).val := by
  unfold res_main_v79
  exact (take_at _ _ d n (lo V d n) (v56_at V d n)).trans (v46_at V d _)

/-- The slope at the bin's left knot. -/
theorem v95_at : (res_main_v95 V (ix2 d n) : EReal) = slo (par V d) (lo V d n) := by
  unfold res_main_v95
  exact (take_at _ _ d n (lo V d n) (v56_at V d n)).trans (v37_at V d _)

/-- The slope at the bin's right knot. -/
theorem v104_at : (res_main_v104 V (ix2 d n) : EReal) = slo (par V d) (hi V d n) := by
  unfold res_main_v104
  exact (take_at _ _ d n (hi V d n) (v97_at V d n)).trans (v37_at V d _)

end Cert.ReferenceIdeal.Value
-- ==== Proof.RefSpline.lean ====
/-
  The reference's rational spline on one bin, in extended reals, over the bin's numbers.
-/
module

public import Idealize.ShloMosaic.Lib.Pointwise

@[expose] public section

noncomputable section

namespace Cert.Spline

open Idealize.ShloMosaic

/-- The place of `x` in a bin of left knot `k` and width `w`, between 0 and 1. -/
def rXi (x k w : EReal) : EReal := min 1 (max 0 (Ideal.div (x - k) (w + Ideal.ofBits .f32 0x322BCC77#32)))

/-- The secant slope of a bin of width `w` and height `h`. -/
def rS (w h : EReal) : EReal := Ideal.div h (w + Ideal.ofBits .f32 0x322BCC77#32)

/-- The denominator before it is kept away from zero. -/
def rDen0 (s a b xi : EReal) : EReal := s + (b + a - Ideal.ofBits .f32 0x40000000#32 * s) * xi * (1 - xi)

/-- The denominator, kept away from zero. -/
def rDen (t : EReal) : EReal := max (FloatOps.absf (F := Ideal) (φ := .f32) t) (Ideal.ofBits .f32 0x322BCC77#32) * Ideal.sign t

/-- The value inside the range, in a bin of lower knot `y`, height `h`, secant slope `s` and knot slopes `a`, `b`. -/
def rIn (y h s a b xi : EReal) : EReal :=
  y + h * Ideal.div (s * (xi * xi) + a * xi * (1 - xi)) (rDen (rDen0 s a b xi))

/-- The slope inside the range. -/
def rDer (s a b xi : EReal) : EReal :=
  max (Ideal.div (s * s * (b * (xi * xi) + Ideal.ofBits .f32 0x40000000#32 * s * (xi * (1 - xi)) + a * ((1 - xi) * (1 - xi))))
    (rDen (rDen0 s a b xi) * rDen (rDen0 s a b xi))) (Ideal.ofBits .f32 0x322BCC77#32)

end Cert.Spline
-- ==== Proof.RefBin.lean ====
/-
  The reference read at an element, second part: the bin's width and height, the rational spline's parts, and the two
  results.
-/
module

public import proofs.«01_k».proof.Proof.RefValue
public import proofs.«01_k».proof.Proof.RefSpline

@[expose] public section

set_option maxRecDepth 16384

noncomputable section

namespace Cert.ReferenceIdeal.Value

open Cert.ReferenceIdeal Cert.ReferenceIdeal.Gen
open Idealize.ShloMosaic Idealize.ShloMosaic.TcCoe Idealize.SL.Sem Idealize.ShloMosaic.StableHlo
open Cert.Spline

/-- A difference of arrays, read at an element. -/
theorem sub_at (A B : FVec Ideal S16x524288 .f32) (j : S16x524288.Idx) : (subf A B j : EReal) = A j - B j := rfl

section
variable (X K W H S A B Xi D Y : FVec Ideal S16x524288 .f32) (P : FVec Ideal S16x9 .f32) (Q R : FVec Ideal S16 .f32)
  (Z : FVec Ideal S524288x16 .f32) (d : Fin 16) (n : Fin 524288)

/-- The place in the bin, element by element. -/
theorem xi_at :
    (minimumf (broadcastInDim S16x524288 ![] bcast_S_S16x524288 (id (constant S_ .f32 0x3F800000#32)))
      (maximumf (broadcastInDim S16x524288 ![] bcast_S_S16x524288 (id (constant S_ .f32 0x00000000#32)))
        (Host.divf (subf X K) (addf W (broadcastInDim S16x524288 ![] bcast_S_S16x524288 (constant S_ .f32 0x322BCC77#32))))) (ix2 d n) : EReal)
      = rXi (X (ix2 d n)) (K (ix2 d n)) (W (ix2 d n)) := by
  simp only [id_eq]
  pointwise []
  rfl

/-- The secant slope, element by element. -/
theorem s_at : (Host.divf H (addf W (broadcastInDim S16x524288 ![] bcast_S_S16x524288 (constant S_ .f32 0x322BCC77#32))) (ix2 d n) : EReal) = rS (W (ix2 d n)) (H (ix2 d n)) := by
  pointwise []
  rfl

/-- The denominator before it is kept away from zero, element by element. -/
theorem den0_at :
    (addf S (mulf (mulf (subf (addf B A) (mulf (broadcastInDim S16x524288 ![] bcast_S_S16x524288 (constant S_ .f32 0x40000000#32)) S)) Xi) (subf (broadcastInDim S16x524288 ![] bcast_S_S16x524288 (constant S_ .f32 0x3F800000#32)) Xi)) (ix2 d n) : EReal)
      = rDen0 (S (ix2 d n)) (A (ix2 d n)) (B (ix2 d n)) (Xi (ix2 d n)) := by
  pointwise []
  rfl

/-- The denominator, element by element. -/
theorem den_at : (mulf (maximumf (Host.absf D) (broadcastInDim S16x524288 ![] bcast_S_S16x524288 (constant S_ .f32 0x322BCC77#32))) (Host.sign D) (ix2 d n) : EReal) = rDen (D (ix2 d n)) := by
  pointwise []
  rfl

/-- The first of a row's nine slopes. -/
theorem first_at : (shapeCast S16 (extractStridedSlice S16x1 ![0, 0] P slices_S16x9_S16x1_0_0) shapeCasts_S16x1_S16 (ix1 d) : EReal)
    = P (ix2 d 0) := by
  pointwise []

/-- The last of a row's nine slopes. -/
theorem last_at : (shapeCast S16 (extractStridedSlice S16x1 ![0, 8] P slices_S16x9_S16x1_0_8) shapeCasts_S16x1_S16 (ix1 d) : EReal)
    = P (ix2 d 8) := by
  pointwise []

/-- The result `y`, element by element: a line below the range, a line above it, the spline inside. -/
theorem y_at :
    (transpose S524288x16 [1, 0] (select (transpose S16x524288 [1, 0] (cmpf .olt Z (broadcastInDim S524288x16 ![] bcast_S_S524288x16 (constant S_ .f32 0xC0400000#32))) transposes_S524288x16_S16x524288_1_0) (addf (mulf (transpose S16x524288 [1, 0] (subf Z (broadcastInDim S524288x16 ![] bcast_S_S524288x16 (constant S_ .f32 0xC0400000#32))) transposes_S524288x16_S16x524288_1_0) (broadcastInDim S16x524288 ![0, 1] bcast_S16x1_S16x524288_0_1 (broadcastInDim S16x1 ![0] bcast_S16_S16x1_0 Q))) (broadcastInDim S16x524288 ![] bcast_S_S16x524288 (constant S_ .f32 0xC0400000#32))) (select (transpose S16x524288 [1, 0] (cmpf .ogt Z (broadcastInDim S524288x16 ![] bcast_S_S524288x16 (constant S_ .f32 0x40400000#32))) transposes_S524288x16_S16x524288_1_0) (addf (mulf (transpose S16x524288 [1, 0] (subf Z (broadcastInDim S524288x16 ![] bcast_S_S524288x16 (constant S_ .f32 0x40400000#32))) transposes_S524288x16_S16x524288_1_0) (broadcastInDim S16x524288 ![0, 1] bcast_S16x1_S16x524288_0_1 (broadcastInDim S16x1 ![0] bcast_S16_S16x1_0 R))) (broadcastInDim S16x524288 ![] bcast_S_S16x524288 (constant S_ .f32 0x40400000#32))) (addf Y (mulf H (Host.divf (addf (mulf S (mulf Xi Xi)) (mulf (mulf A Xi) (subf (broadcastInDim S16x524288 ![] bcast_S_S16x524288 (constant S_ .f32 0x3F800000#32)) Xi))) D))))) transposes_S16x524288_S524288x16_1_0 (ix2 n d) : EReal)
      = (if Z (ix2 n d) < Ideal.ofBits .f32 0xC0400000#32 then (Z (ix2 n d) - Ideal.ofBits .f32 0xC0400000#32) * Q (ix1 d) + Ideal.ofBits .f32 0xC0400000#32
        else if Ideal.ofBits .f32 0x40400000#32 < Z (ix2 n d) then (Z (ix2 n d) - Ideal.ofBits .f32 0x40400000#32) * R (ix1 d) + Ideal.ofBits .f32 0x40400000#32
        else Y (ix2 d n) + H (ix2 d n) * Ideal.div (S (ix2 d n) * (Xi (ix2 d n) * Xi (ix2 d n)) + A (ix2 d n) * Xi (ix2 d n) * (1 - Xi (ix2 d n))) (D (ix2 d n)) : EReal) := by
  pointwise []

/-- The result `ld`, row by row: the sum over the dimensions of the logarithm of the slope below the range, above it or inside. -/
theorem ld_at (U : FVec Ideal S16x524288 .f32) :
    (Host.reduceAdd (select (transpose S16x524288 [1, 0] (cmpf .olt Z (broadcastInDim S524288x16 ![] bcast_S_S524288x16 (constant S_ .f32 0xC0400000#32))) transposes_S524288x16_S16x524288_1_0) (broadcastInDim S16x524288 ![0] bcast_S16_S16x524288_0 (Host.log Q)) (select (transpose S16x524288 [1, 0] (cmpf .ogt Z (broadcastInDim S524288x16 ![] bcast_S_S524288x16 (constant S_ .f32 0x40400000#32))) transposes_S524288x16_S16x524288_1_0) (broadcastInDim S16x524288 ![0] bcast_S16_S16x524288_0 (Host.log R)) (Host.log (maximumf (Host.divf (mulf (mulf S S) (addf (addf (mulf B (mulf Xi Xi)) (mulf (mulf (broadcastInDim S16x524288 ![] bcast_S_S16x524288 (constant S_ .f32 0x40000000#32)) S) (mulf Xi (subf (broadcastInDim S16x524288 ![] bcast_S_S16x524288 (constant S_ .f32 0x3F800000#32)) Xi)))) (mulf A (mulf U U)))) (mulf D D)) (broadcastInDim S16x524288 ![] bcast_S_S16x524288 (constant S_ .f32 0x322BCC77#32)))))) (constant S_ .f32 0x00000000#32) reducesTo_S16x524288_S524288_d0 h_S_ (ix1 n) : EReal)
      = ∑ d : Fin 16, (if Z (ix2 n d) < Ideal.ofBits .f32 0xC0400000#32 then Ideal.log (Q (ix1 d))
        else if Ideal.ofBits .f32 0x40400000#32 < Z (ix2 n d) then Ideal.log (R (ix1 d))
        else Ideal.log (max (Ideal.div (S (ix2 d n) * S (ix2 d n) * (B (ix2 d n) * (Xi (ix2 d n) * Xi (ix2 d n))
            + Ideal.ofBits .f32 0x40000000#32 * S (ix2 d n) * (Xi (ix2 d n) * (1 - Xi (ix2 d n))) + A (ix2 d n) * (U (ix2 d n) * U (ix2 d n))))
          (D (ix2 d n) * D (ix2 d n))) (Ideal.ofBits .f32 0x322BCC77#32)) : EReal) := by
  pointwise []

end

variable (V : Valuation τ sig (Elt Ideal)) (d : Fin 16) (n : Fin 524288)

/-- The bin's width. -/
theorem v105_at : (res_main_v105 V (ix2 d n) : EReal)
    = knot (wid (par V d)) (hi V d n).val - knot (wid (par V d)) (lo V d n).val := by
  unfold res_main_v105
  refine (sub_at _ _ _).trans ?_
  rw [v63_at]
  refine congrArg (fun a : EReal => a - knot (wid (par V d)) (lo V d n).val) ?_
  exact (take_at _ _ d n (hi V d n) (v65_at V d n)).trans (v42_at V d _)

/-- The bin's height. -/
theorem v112_at : (res_main_v112 V (ix2 d n) : EReal)
    = knot (hei (par V d)) (hi V d n).val - knot (hei (par V d)) (lo V d n).val := by
  unfold res_main_v112
  refine (sub_at _ _ _).trans ?_
  rw [v79_at]
  refine congrArg (fun a : EReal => a - knot (hei (par V d)) (lo V d n).val) ?_
  exact (take_at _ _ d n (hi V d n) (v81_at V d n)).trans (v46_at V d _)

/-- The width of the bin `x` falls in, for the parameter row `p`. -/
def binW (p : Fin 25 → EReal) (x : EReal) : EReal := knot (wid p) (cnt p x + 1) - knot (wid p) (cnt p x)

/-- The height of the bin `x` falls in. -/
def binH (p : Fin 25 → EReal) (x : EReal) : EReal := knot (hei p) (cnt p x + 1) - knot (hei p) (cnt p x)

/-- The slope at the left knot of the bin `x` falls in. -/
def binA (p : Fin 25 → EReal) (x : EReal) : EReal := slo p ⟨cnt p x, by have := cnt_le p x; omega⟩

/-- The slope at the right knot of the bin `x` falls in. -/
def binB (p : Fin 25 → EReal) (x : EReal) : EReal := slo p ⟨cnt p x + 1, by have := cnt_le p x; omega⟩

/-- The place of `x` in its bin. -/
def binXi (p : Fin 25 → EReal) (x : EReal) : EReal := rXi x (knot (wid p) (cnt p x)) (binW p x)

/-- The secant slope of the bin `x` falls in. -/
def binS (p : Fin 25 → EReal) (x : EReal) : EReal := rS (binW p x) (binH p x)

/-- The reference's `y` at an input `x` with the parameter row `p`. -/
def refY (p : Fin 25 → EReal) (x : EReal) : EReal :=
  if x < Ideal.ofBits .f32 0xC0400000#32 then (x - Ideal.ofBits .f32 0xC0400000#32) * slo p 0 + Ideal.ofBits .f32 0xC0400000#32
  else if Ideal.ofBits .f32 0x40400000#32 < x then (x - Ideal.ofBits .f32 0x40400000#32) * slo p 8 + Ideal.ofBits .f32 0x40400000#32
  else rIn (knot (hei p) (cnt p x)) (binH p x) (binS p x) (binA p x) (binB p x) (binXi p x)

/-- The reference's logarithm of the slope at an input `x` with the parameter row `p`. -/
def refL (p : Fin 25 → EReal) (x : EReal) : EReal :=
  if x < Ideal.ofBits .f32 0xC0400000#32 then Ideal.log (slo p 0)
  else if Ideal.ofBits .f32 0x40400000#32 < x then Ideal.log (slo p 8)
  else Ideal.log (rDer (binS p x) (binA p x) (binB p x) (binXi p x))

/-- The input with its axes exchanged, read at an element. -/
theorem input_at (Z : FVec Ideal S524288x16 .f32) :
    (transpose S16x524288 [1, 0] Z transposes_S524288x16_S16x524288_1_0 (ix2 d n) : EReal) = Z (ix2 n d) := by
  pointwise []

/-- One minus an array, read at an element. -/
theorem one_sub_at (Xi : FVec Ideal S16x524288 .f32) :
    (subf (broadcastInDim S16x524288 ![] bcast_S_S16x524288 (constant S_ .f32 0x3F800000#32)) Xi (ix2 d n) : EReal)
      = (1 : EReal) - Xi (ix2 d n) := by
  pointwise []

theorem v111_at : (res_main_v111 V (ix2 d n) : EReal) = binXi (par V d) (inp V d n) := by
  unfold res_main_v111
  refine (xi_at _ _ _ d n).trans ?_
  rw [v63_at, v105_at, input_at]
  rfl

theorem v115_at : (res_main_v115 V (ix2 d n) : EReal) = binS (par V d) (inp V d n) := by
  unfold res_main_v115
  refine (s_at _ _ d n).trans ?_
  rw [v105_at, v112_at]
  rfl

theorem v131_at : (res_main_v131 V (ix2 d n) : EReal)
    = rDen0 (binS (par V d) (inp V d n)) (binA (par V d) (inp V d n)) (binB (par V d) (inp V d n)) (binXi (par V d) (inp V d n)) := by
  unfold res_main_v131
  refine (den0_at _ _ _ _ d n).trans ?_
  rw [v115_at, v95_at, v104_at, v111_at]
  rfl

theorem v136_at : (res_main_v136 V (ix2 d n) : EReal)
    = rDen (rDen0 (binS (par V d) (inp V d n)) (binA (par V d) (inp V d n)) (binB (par V d) (inp V d n)) (binXi (par V d) (inp V d n))) := by
  unfold res_main_v136
  refine (den_at _ d n).trans ?_
  rw [v131_at]

theorem v151_at : (res_main_v151 V (ix2 d n) : EReal) = (1 : EReal) - binXi (par V d) (inp V d n) := by
  unfold res_main_v151
  refine (one_sub_at d n _).trans ?_
  rw [v111_at]

theorem v162_at : (res_main_v162 V (ix1 d) : EReal) = slo (par V d) 0 := by
  unfold res_main_v162
  exact (first_at _ d).trans (v37_at V d 0)

theorem v164_at : (res_main_v164 V (ix1 d) : EReal) = slo (par V d) 8 := by
  unfold res_main_v164
  exact (last_at _ d).trans (v37_at V d 8)

end Cert.ReferenceIdeal.Value
-- ==== Proof.RefEnds.lean ====
/-
  The reference's two results, element by element, after any run.
-/
module

public import proofs.«01_k».proof.Proof.Gen.ReferenceIdeal.Run
public import proofs.«01_k».proof.Proof.RefBin

@[expose] public section

set_option maxRecDepth 16384

noncomputable section

namespace Cert.ReferenceIdeal.Value

open Cert.ReferenceIdeal Cert.ReferenceIdeal.Gen
open Idealize.ShloMosaic Idealize.ShloMosaic.TcCoe Idealize.SL.Sem Idealize.ShloMosaic.StableHlo
open Cert.Spline

/-- Every run of the reference leaves `y` at `refY` of the input's element and its parameter row, `ld` at the sum over
    the row of `refL`, and the arguments as they were. -/
theorem run_at (m : (ℓ : Loc nD τ sig) → Buf (Elt Ideal) ℓ) (ρ : Dev nD → PrngReg) :
    θ_run defs (onTc (τ := τ) (main (F := Ideal))) ⟨m, fun _ => 0, ρ⟩ fun r => ∀ c : Dev nD,
      (∀ (n : Fin 524288) (d : Fin 16), ((r.2.mem ((c.tc : Thread nD τ).loc main_v191) : FVec Ideal S524288x16 .f32) (ix2 n d) : EReal)
          = refY (par (launchContents m c) d) (inp (launchContents m c) d n))
      ∧ (∀ n : Fin 524288, ((r.2.mem ((c.tc : Thread nD τ).loc main_v192) : FVec Ideal S524288 .f32) (ix1 n) : EReal)
          = ∑ d : Fin 16, refL (par (launchContents m c) d) (inp (launchContents m c) d n))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ?_) (run m ρ)
  obtain ⟨h1, h2, h3, h4⟩ := h c
  refine ⟨fun n d => ?_, fun n => ?_, h3, h4⟩
  · refine (congrFun h1 (ix2 n d)).trans ?_
    refine (y_at (res_main_v112 (launchContents m c)) (res_main_v115 (launchContents m c)) (res_main_v95 (launchContents m c))
      (res_main_v111 (launchContents m c)) (res_main_v136 (launchContents m c)) (res_main_v79 (launchContents m c))
      (res_main_v162 (launchContents m c)) (res_main_v164 (launchContents m c))
      (launchContents m c (Proc.devRef .tc main_arg0)) d n).trans ?_
    rw [v112_at, v115_at, v95_at, v111_at, v136_at, v79_at, v162_at, v164_at]
    rfl
  · refine (congrFun h2 (ix1 n)).trans ?_
    refine (ld_at (res_main_v115 (launchContents m c)) (res_main_v95 (launchContents m c)) (res_main_v104 (launchContents m c))
      (res_main_v111 (launchContents m c)) (res_main_v136 (launchContents m c))
      (res_main_v162 (launchContents m c)) (res_main_v164 (launchContents m c))
      (launchContents m c (Proc.devRef .tc main_arg0)) n (res_main_v151 (launchContents m c))).trans ?_
    refine Finset.sum_congr (M := EReal) rfl fun d _ => ?_
    rw [v115_at, v95_at, v104_at, v111_at, v136_at, v151_at, v162_at, v164_at]
    rfl

end Cert.ReferenceIdeal.Value
-- ==== Proof.Consts.lean ====
/-
  The constants of the spline, as extended reals.
-/
module

public import Idealize.ShloMosaic.Lib.Pointwise

@[expose] public section

noncomputable section

namespace Cert.Spline

open Idealize.ShloMosaic

/-- The value the largest of a row starts from is `⊥`. -/
theorem c_bot : Ideal.ofBits .f32 0xFF800000#32 = ⊥ := by simp [Ideal.ofBits, Ideal.ieee]

/-- The upper end of the infinite range: `⊤`. -/
theorem c_top : Ideal.ofBits .f32 0x7F800000#32 = ⊤ := by simp [Ideal.ofBits, Ideal.ieee]

/-- The left end of the range is −3. -/
theorem c_left : Ideal.ofBits .f32 0xC0400000#32 = ((-3 : ℝ) : EReal) := by
  simp [Ideal.ofBits, Ideal.ieee, -EReal.coe_mul, -EReal.coe_neg]; norm_num

/-- The right end of the range is 3. -/
theorem c_right : Ideal.ofBits .f32 0x40400000#32 = ((3 : ℝ) : EReal) := by
  simp [Ideal.ofBits, Ideal.ieee, -EReal.coe_mul, -EReal.coe_neg]; norm_num

/-- Two. -/
theorem c_two : Ideal.ofBits .f32 0x40000000#32 = ((2 : ℝ) : EReal) := by
  simp [Ideal.ofBits, Ideal.ieee, -EReal.coe_mul, -EReal.coe_neg]; norm_num

/-- Minus one. -/
theorem c_neg_one : Ideal.ofBits .f32 0xBF800000#32 = ((-1 : ℝ) : EReal) := by
  simp [Ideal.ofBits, Ideal.ieee, -EReal.coe_mul, -EReal.coe_neg]; norm_num

/-- The guard against a zero divisor is a positive real. -/
theorem c_eps : ∃ e : ℝ, 0 < e ∧ Ideal.ofBits .f32 0x322BCC77#32 = (e : EReal) := by
  refine ⟨_, ?_, by simp [Ideal.ofBits, Ideal.ieee, -EReal.coe_mul, -EReal.coe_neg]; rfl⟩
  norm_num

/-- The floor of a bin's size and of a slope is a positive real. -/
theorem c_floor : ∃ e : ℝ, 0 < e ∧ Ideal.ofBits .f32 0x38D1B717#32 = (e : EReal) := by
  refine ⟨_, ?_, by simp [Ideal.ofBits, Ideal.ieee, -EReal.coe_mul, -EReal.coe_neg]; rfl⟩
  norm_num

/-- The scale of the bins' sizes is a positive real. -/
theorem c_scale : ∃ e : ℝ, 0 < e ∧ Ideal.ofBits .f32 0x40BFF972#32 = (e : EReal) := by
  refine ⟨_, ?_, by simp [Ideal.ofBits, Ideal.ieee, -EReal.coe_mul, -EReal.coe_neg]; rfl⟩
  norm_num

end Cert.Spline

end
-- ==== Proof.Rows.lean ====
/-
  The bins' sizes, the knots and the slopes of one row of parameters: which of them are positive reals, and the bin an
  input falls into.
-/
module

public import proofs.«01_k».proof.Proof.Consts
public import proofs.«01_k».proof.Proof.Params
public import proofs.«01_k».proof.Proof.Spline

@[expose] public section

noncomputable section

namespace Cert.Spline

open Idealize.ShloMosaic

/-- Division off zero is the product with the inverse. -/
theorem div_of_ne {x y : EReal} (hy : y ≠ 0) : Ideal.div x y = x * y⁻¹ := by
  unfold Ideal.div; rw [if_neg hy]

/-- The largest of a row is its supremum. -/
theorem top_eq (z : Fin 8 → EReal) : top z = Finset.univ.sup z := by
  unfold top; rw [c_bot]; exact max_eq_right bot_le

theorem le_top_row (z : Fin 8 → EReal) (i : Fin 8) : z i ≤ top z := by
  rw [top_eq]; exact Finset.le_sup (Finset.mem_univ i)

/-- A row whose largest logit is infinite has no bin sizes: all of them are `⊥`. -/
theorem soft_bad (z : Fin 8 → EReal) (h : top z = ⊤ ∨ top z = ⊥) (j : Fin 8) : soft z j = ⊥ := by
  have hz : ∀ i, z i - top z = ⊥ := fun i => by
    rcases h with h | h
    · rw [h, EReal.sub_top]
    · have := le_top_row z i
      rw [h, le_bot_iff] at this
      rw [this, EReal.bot_sub]
  obtain ⟨s, hs, es⟩ := c_scale
  obtain ⟨f, hf, ef⟩ := c_floor
  have he : Ideal.exp ⊥ = 0 := rfl
  unfold soft
  simp only [hz, he, Finset.sum_const_zero, es, ef]
  rw [show Ideal.div 0 0 = ⊥ by simp [Ideal.div], EReal.bot_mul_coe_of_pos hs, EReal.bot_add]

/-- A sum of reals taken in extended reals is the real sum. -/
theorem coe_sum (r : Fin 8 → ℝ) : ∑ j, (r j : EReal) = ((∑ j, r j : ℝ) : EReal) := by
  induction (Finset.univ : Finset (Fin 8)) using Finset.induction_on with
  | empty => simp
  | insert a t ha ih => rw [Finset.sum_insert ha, Finset.sum_insert ha, ih, EReal.coe_add]

/-- A row whose largest logit is finite has positive real bin sizes. -/
theorem soft_good (z : Fin 8 → EReal) (M : ℝ) (h : top z = (M : EReal)) :
    ∃ w : Fin 8 → ℝ, (∀ j, 0 < w j) ∧ ∀ j, soft z j = (w j : EReal) := by
  have he : ∀ i, ∃ r : ℝ, 0 ≤ r ∧ Ideal.exp (z i - top z) = (r : EReal) := fun i => by
    have hi := le_top_row z i
    rw [h] at hi ⊢
    induction hz : z i with
    | bot => exact ⟨0, le_rfl, by rw [EReal.bot_sub]; rfl⟩
    | top => rw [hz] at hi; exact absurd hi (not_le.mpr (EReal.coe_lt_top M))
    | coe t => exact ⟨Real.exp (t - M), (Real.exp_pos _).le, rfl⟩
  choose r hr er using he
  obtain ⟨i, -, hi⟩ := Finset.exists_mem_eq_sup Finset.univ Finset.univ_nonempty z
  rw [← top_eq] at hi
  have ri : r i = 1 := by
    have := er i
    rw [← hi, h, ← EReal.coe_sub, sub_self] at this
    have h1 : Ideal.exp ((0 : ℝ) : EReal) = ((Real.exp 0 : ℝ) : EReal) := rfl
    rw [h1, Real.exp_zero] at this
    exact (EReal.coe_eq_coe_iff.mp this).symm
  have hS : 0 < ∑ j, r j := by
    have := Finset.single_le_sum (fun j _ => hr j) (Finset.mem_univ i)
    rw [ri] at this
    linarith
  obtain ⟨s, hs, es⟩ := c_scale
  obtain ⟨f, hf, ef⟩ := c_floor
  refine ⟨fun j => r j * (∑ j, r j)⁻¹ * s + f, fun j => ?_, fun j => ?_⟩
  · have := mul_nonneg (mul_nonneg (hr j) (inv_pos.mpr hS).le) hs.le
    linarith
  · unfold soft
    simp only [er, es, ef]
    rw [coe_sum, div_of_ne (by rw [← EReal.coe_zero, Ne, EReal.coe_eq_coe_iff]; exact hS.ne'), ← EReal.coe_inv]
    norm_cast

/-- One bin further the knot is larger by the bin's size. -/
theorem knot_succ (w : Fin 8 → EReal) (j : Fin 8) : knot w (j.val + 1) = knot w j.val + w j := by
  show knot w j.val + _ = _
  rw [dif_pos j.isLt]

/-- Real sizes give real knots. -/
theorem knot_real (w : Fin 8 → EReal) (v : Fin 8 → ℝ) (hw : ∀ j, w j = (v j : EReal)) (n : ℕ) :
    ∃ k : ℝ, knot w n = (k : EReal) := by
  induction n with
  | zero => exact ⟨-3, c_left⟩
  | succ n ih =>
    obtain ⟨k, hk⟩ := ih
    by_cases h : n < 8
    · exact ⟨k + v ⟨n, h⟩, by rw [knot, dif_pos h, hk, hw, EReal.coe_add]⟩
    · exact ⟨k, by rw [knot, dif_neg h, hk, add_zero]⟩

/-- With real sizes two neighbouring knots differ by the size of the bin between them. -/
theorem knot_sub (w : Fin 8 → EReal) (v : Fin 8 → ℝ) (hw : ∀ j, w j = (v j : EReal)) (j : Fin 8) :
    knot w (j.val + 1) - knot w j.val = w j := by
  obtain ⟨k, hk⟩ := knot_real w v hw j.val
  rw [knot_succ, hk, hw, ← EReal.coe_add, ← EReal.coe_sub, add_sub_cancel_left]

/-- With no sizes (all of them `⊥`) neighbouring knots differ by `⊥`, the size, all the same. -/
theorem knot_sub_bad (w : Fin 8 → EReal) (hw : ∀ j, w j = ⊥) (j : Fin 8) :
    knot w (j.val + 1) - knot w j.val = w j := by
  rw [knot_succ, hw, EReal.add_bot, EReal.bot_sub]

/-- Neighbouring knots of any row of logits differ by the size of the bin between them. -/
theorem soft_knot_sub (z : Fin 8 → EReal) (j : Fin 8) : knot (soft z) (j.val + 1) - knot (soft z) j.val = soft z j := by
  induction h : top z with
  | bot => exact knot_sub_bad _ (soft_bad z (Or.inr h)) j
  | top => exact knot_sub_bad _ (soft_bad z (Or.inl h)) j
  | coe M =>
    obtain ⟨v, -, hv⟩ := soft_good z M h
    exact knot_sub _ v hv j

/-- Positive sizes put the knots in order. -/
theorem knot_le (w : Fin 8 → EReal) (hw : ∀ j, 0 ≤ w j) (j : Fin 8) : knot w j.val ≤ knot w (j.val + 1) := by
  rw [knot_succ]
  exact le_add_of_nonneg_right (hw j)

/-- The count of seven ordered conditions, as truth values. -/
theorem count_bool : ∀ a b c d e f g : Bool, (b → a) → (c → b) → (d → c) → (e → d) → (f → e) → (g → f) →
    ((if a then 1 else 0) + (if b then 1 else 0) + (if c then 1 else 0) + (if d then 1 else 0) + (if e then 1 else 0)
      + (if f then 1 else 0) + (if g then 1 else 0) : ℕ)
      = (if g then (7 : Fin 8) else if f then 6 else if e then 5 else if d then 4 else if c then 3 else if b then 2
        else if a then 1 else 0).val := by decide

/-- Seven conditions each of which implies the one before: how many of them hold is the number of the last that does. -/
theorem count_chain (q : Fin 8 → Prop) [DecidablePred q] (h : ∀ i : Fin 7, q i.succ → q i.castSucc) :
    (∑ j : Fin 7, if q j.succ then 1 else 0 : ℕ)
      = (if q 7 then (7 : Fin 8) else if q 6 then 6 else if q 5 then 5 else if q 4 then 4
        else if q 3 then 3 else if q 2 then 2 else if q 1 then 1 else 0).val := by
  have h1 : q 2 → q 1 := h 1
  have h2 : q 3 → q 2 := h 2
  have h3 : q 4 → q 3 := h 3
  have h4 : q 5 → q 4 := h 4
  have h5 : q 6 → q 5 := h 5
  have h6 : q 7 → q 6 := h 6
  rw [Fin.sum_univ_seven]
  show (if q 1 then 1 else 0) + (if q 2 then 1 else 0) + (if q 3 then 1 else 0) + (if q 4 then 1 else 0)
    + (if q 5 then 1 else 0) + (if q 6 then 1 else 0) + (if q 7 then 1 else 0) = _
  simpa only [decide_eq_true_eq] using count_bool (decide (q 1)) (decide (q 2)) (decide (q 3)) (decide (q 4)) (decide (q 5))
    (decide (q 6)) (decide (q 7)) (by simpa using h1) (by simpa using h2) (by simpa using h3) (by simpa using h4)
    (by simpa using h5) (by simpa using h6)

/-- The number of reached inner knots is the number of the bin the chain of comparisons ends with. -/
theorem count_eq (w : Fin 8 → EReal) (hw : ∀ j, 0 ≤ w j) (x : EReal) :
    (∑ j : Fin 7, if knot w (1 + j.val) ≤ x then 1 else 0 : ℕ) = (bin (fun j => knot w j.val) x).val := by
  have := count_chain (fun j : Fin 8 => knot w j.val ≤ x) fun i hi => (knot_le w hw i.castSucc).trans hi
  simp only [Fin.val_succ, add_comm _ 1] at this
  exact this

/-- A slope is positive. -/
theorem slopeOf_pos (z : EReal) : 0 < slopeOf z := by
  obtain ⟨f, hf, ef⟩ := c_floor
  unfold slopeOf
  generalize z + Ideal.ofBits .f32 0x3F0A89E6#32 = t
  have hl : 0 ≤ Ideal.log1p (Ideal.exp (-FloatOps.absf (F := Ideal) (φ := .f32) t)) := by
    show 0 ≤ Ideal.log (1 + Ideal.exp (-max t (-t)))
    induction t with
    | bot =>
      rw [EReal.neg_bot, max_eq_right bot_le, EReal.neg_top]
      show 0 ≤ Ideal.log (1 + 0)
      rw [add_zero, ← EReal.coe_one]
      show 0 ≤ (if (1 : ℝ) ≤ 0 then ⊥ else ((Real.log 1 : ℝ) : EReal))
      rw [if_neg (by norm_num), Real.log_one, EReal.coe_zero]
    | top =>
      rw [max_eq_left le_top, EReal.neg_top]
      show 0 ≤ Ideal.log (1 + 0)
      rw [add_zero, ← EReal.coe_one]
      show 0 ≤ (if (1 : ℝ) ≤ 0 then ⊥ else ((Real.log 1 : ℝ) : EReal))
      rw [if_neg (by norm_num), Real.log_one, EReal.coe_zero]
    | coe r =>
      rw [← EReal.coe_neg, ← EReal.coe_strictMono.monotone.map_max, ← EReal.coe_neg]
      show 0 ≤ Ideal.log (1 + ((Real.exp (-max r (-r)) : ℝ) : EReal))
      have := Real.exp_pos (-max r (-r))
      rw [← EReal.coe_one, ← EReal.coe_add]
      show 0 ≤ (if 1 + Real.exp (-max r (-r)) ≤ 0 then ⊥ else ((Real.log (1 + Real.exp (-max r (-r))) : ℝ) : EReal))
      rw [if_neg (by linarith)]
      exact EReal.coe_nonneg.mpr (Real.log_nonneg (by linarith))
  rw [ef]
  have hf' : (0 : EReal) < (f : EReal) := EReal.coe_pos.mpr hf
  exact hf'.trans_le (le_add_of_nonneg_left (add_nonneg (le_max_right _ _) hl))

end Cert.Spline

end
-- ==== Proof.Agree.lean ====
/-
  The kernel's element and the reference's agree, when the largest width logit of the row is finite.
-/
module

public import proofs.«01_k».proof.Proof.Rows
public import proofs.«01_k».proof.Proof.RefBin

@[expose] public section

noncomputable section

namespace Cert.Spline

open Idealize.ShloMosaic
open Cert.ReferenceIdeal.Value (cnt cnt_le binW binH binA binB binXi binS refY refL)

/-! ## The table's row read at the bin -/

/-- The bin's number. -/
abbrev inBin (p : Fin 25 → EReal) (x : EReal) : Fin 8 := bin (fun j => knot (wid p) j.val) x

/-- The chain of comparisons picks the bin's entry of the eight columns. -/
theorem pick_eq (p : Fin 25 → EReal) (o : ℕ) (ho : o + 8 ≤ 48) (x : EReal) :
    pick (tab p) o ho x = tab p ⟨o + (inBin p x).val, by omega⟩ :=
  chain_eq (fun j => knot (wid p) j.val) (fun j => tab p ⟨o + j.val, by omega⟩) x

variable (p : Fin 25 → EReal) (k : Fin 8)

theorem tab_knot : tab p ⟨0 + k.val, by omega⟩ = knot (wid p) k.val := by
  rw [tab, dif_pos (show 0 + k.val < 9 by omega)]
  simp only [Nat.zero_add]

theorem tab_up : tab p ⟨9 + k.val, by omega⟩ = knot (hei p) k.val := by
  rw [tab, dif_neg (show ¬ 9 + k.val < 9 by omega), dif_pos (show 9 + k.val < 17 by omega)]
  simp only [Nat.add_sub_cancel_left]

theorem tab_slo (j : Fin 9) : tab p ⟨17 + j.val, by omega⟩ = slo p j := by
  rw [tab, dif_neg (show ¬ 17 + j.val < 9 by omega), dif_neg (show ¬ 17 + j.val < 17 by omega),
    dif_pos (show 17 + j.val < 26 by omega)]
  simp only [Nat.add_sub_cancel_left]

theorem tab_inv : tab p ⟨26 + k.val, by omega⟩ = Ideal.div 1 (wid p k + Ideal.ofBits .f32 0x322BCC77#32) := by
  rw [tab, dif_neg (show ¬ 26 + k.val < 9 by omega), dif_neg (show ¬ 26 + k.val < 17 by omega),
    dif_neg (show ¬ 26 + k.val < 26 by omega), dif_pos (show 26 + k.val < 34 by omega)]
  simp only [Nat.add_sub_cancel_left]

theorem tab_hei : tab p ⟨34 + k.val, by omega⟩ = hei p k := by
  rw [tab, dif_neg (show ¬ 34 + k.val < 9 by omega), dif_neg (show ¬ 34 + k.val < 17 by omega),
    dif_neg (show ¬ 34 + k.val < 26 by omega), dif_neg (show ¬ 34 + k.val < 34 by omega), dif_pos (show 34 + k.val < 42 by omega)]
  simp only [Nat.add_sub_cancel_left]

/-! ## The denominator -/

/-- The sign the kernel makes by comparisons is the sign. -/
theorem sign_eq (d : EReal) :
    (if 0 < FloatOps.absf (F := Ideal) (φ := .f32) d then if d < 0 then Ideal.ofBits .f32 0xBF800000#32 else 1 else d)
      = Ideal.sign d := by
  show (if 0 < max d (-d) then if d < 0 then Ideal.ofBits .f32 0xBF800000#32 else 1 else d) = Ideal.sign d
  rw [c_neg_one]
  induction d with
  | bot => rw [EReal.neg_bot, max_eq_right bot_le, if_pos EReal.zero_lt_top, if_pos EReal.bot_lt_zero]; rfl
  | top => rw [max_eq_left le_top, if_pos EReal.zero_lt_top, if_neg (not_lt.mpr le_top)]; rfl
  | coe r =>
    show _ = ((SignType.sign r : ℝ) : EReal)
    rcases lt_trichotomy r 0 with h | h | h
    · rw [if_pos (lt_max_of_lt_right (by rw [← EReal.coe_neg]; exact EReal.coe_pos.mpr (by linarith))),
        if_pos (EReal.coe_neg'.mpr h), sign_neg h]; rfl
    · subst h; simp
    · rw [if_pos (lt_max_of_lt_left (EReal.coe_pos.mpr h)), if_neg (not_lt.mpr (EReal.coe_nonneg.mpr h.le)), sign_pos h]; rfl

/-- The sign of what is not zero is not zero. -/
theorem sign_ne {d : EReal} (hd : d ≠ 0) : Ideal.sign d ≠ 0 := by
  induction d with
  | bot => show (-1 : EReal) ≠ 0; simp
  | top => show (1 : EReal) ≠ 0; simp
  | coe r =>
    have hr : r ≠ 0 := fun h => hd (by rw [h]; rfl)
    show ((SignType.sign r : ℝ) : EReal) ≠ 0
    rcases lt_or_gt_of_ne hr with h | h
    · rw [sign_neg h]; simp
    · rw [sign_pos h]; simp

/-- The denominator kept away from zero is not zero. -/
theorem rDen_ne {d : EReal} (hd : d ≠ 0) : rDen d ≠ 0 := by
  obtain ⟨e, he, ee⟩ := c_eps
  have h : (0 : EReal) < max (FloatOps.absf (F := Ideal) (φ := .f32) d) (Ideal.ofBits .f32 0x322BCC77#32) := by
    rw [ee]; exact lt_max_of_lt_right (EReal.coe_pos.mpr he)
  exact mul_ne_zero h.ne' (sign_ne hd)

/-- The denominator is not zero: a positive real or `⊥` height, positive slopes, a place between 0 and 1. -/
theorem rDen0_ne (s : EReal) (hs : s = ⊥ ∨ ∃ r : ℝ, 0 < r ∧ s = (r : EReal)) (a b : EReal) (ha : 0 < a) (hb : 0 < b)
    (t : ℝ) (h0 : 0 ≤ t) (h1 : t ≤ 1) : rDen0 s a b (t : EReal) ≠ 0 := by
  unfold rDen0
  rcases hs with rfl | ⟨r, hr, rfl⟩
  · rw [EReal.bot_add]; exact EReal.bot_ne_zero
  · rw [c_two, mul_assoc, ← EReal.coe_one, ← EReal.coe_sub, ← EReal.coe_mul, ← EReal.coe_mul]
    have hu : 0 ≤ t * (1 - t) := mul_nonneg h0 (by linarith)
    have hu4 : t * (1 - t) ≤ 1 / 4 := by nlinarith [sq_nonneg (t - 1 / 2)]
    have htop : ∀ y : EReal, y = ⊤ → (r : EReal) + (y - ((2 * r : ℝ) : EReal)) * ((t * (1 - t) : ℝ) : EReal) ≠ 0 := by
      rintro y rfl
      rw [EReal.top_sub_coe]
      rcases hu.eq_or_lt with h | h
      · rw [← h, EReal.coe_zero, mul_zero, add_zero]; exact (EReal.coe_pos.mpr hr).ne'
      · rw [EReal.top_mul_coe_of_pos h, EReal.coe_add_top]; exact EReal.top_ne_zero
    induction a with
    | bot => exact absurd ha (not_lt.mpr bot_le)
    | top => exact htop _ (EReal.add_top_of_ne_bot (ne_bot_of_gt hb))
    | coe a =>
      induction b with
      | bot => exact absurd hb (not_lt.mpr bot_le)
      | top => exact htop _ (EReal.top_add_of_ne_bot (EReal.coe_ne_bot a))
      | coe b =>
        have ha := EReal.coe_pos.mp ha
        have hb := EReal.coe_pos.mp hb
        rw [← EReal.coe_add, ← EReal.coe_sub, ← EReal.coe_mul, ← EReal.coe_add, ← EReal.coe_zero, Ne, EReal.coe_eq_coe_iff]
        have : 0 ≤ (b + a) * (t * (1 - t)) := mul_nonneg (by linarith) hu
        have : r * (t * (1 - t)) ≤ r * (1 / 4) := mul_le_mul_of_nonneg_left hu4 hr.le
        intro h
        nlinarith

/-! ## The element -/

/-- A row whose largest width logit is finite. -/
def Fine (p : Fin 25 → EReal) : Prop := ∃ M : ℝ, top (fun j : Fin 8 => p ⟨j.val, by omega⟩) = (M : EReal)

variable {p} (x : EReal)

/-- Such a row has positive real widths. -/
theorem wid_pos (hp : Fine p) : ∃ w : Fin 8 → ℝ, (∀ j, 0 < w j) ∧ ∀ j, wid p j = (w j : EReal) := by
  obtain ⟨M, hM⟩ := hp
  exact soft_good _ M hM

/-- The reference's count of reached knots is the kernel's bin. -/
theorem cnt_eq (hp : Fine p) : cnt p x = (inBin p x).val := by
  obtain ⟨w, hw, ew⟩ := wid_pos hp
  exact count_eq (wid p) (fun j => by rw [ew]; exact EReal.coe_nonneg.mpr (hw j).le) x

theorem binW_eq (hp : Fine p) : binW p x = wid p (inBin p x) := by
  unfold binW; rw [cnt_eq x hp]; exact soft_knot_sub _ _

theorem binH_eq (hp : Fine p) : binH p x = hei p (inBin p x) := by
  unfold binH; rw [cnt_eq x hp]; exact soft_knot_sub _ _

/-- The bin's width with its guard is a positive real. -/
theorem width_pos (hp : Fine p) : ∃ v : ℝ, 0 < v ∧ binW p x + Ideal.ofBits .f32 0x322BCC77#32 = (v : EReal) := by
  obtain ⟨w, hw, ew⟩ := wid_pos hp
  obtain ⟨e, he, ee⟩ := c_eps
  exact ⟨w (inBin p x) + e, add_pos (hw _) he, by rw [binW_eq x hp, ew, ee, EReal.coe_add]⟩

theorem width_ne (hp : Fine p) : binW p x + Ideal.ofBits .f32 0x322BCC77#32 ≠ 0 := by
  obtain ⟨v, hv, ev⟩ := width_pos x hp
  rw [ev]; exact (EReal.coe_pos.mpr hv).ne'

theorem pick_knot (hp : Fine p) : pick (tab p) 0 (by decide) x = knot (wid p) (cnt p x) := by
  rw [pick_eq, tab_knot, cnt_eq x hp]

theorem pick_up (hp : Fine p) : pick (tab p) 9 (by decide) x = knot (hei p) (cnt p x) := by
  rw [pick_eq, tab_up, cnt_eq x hp]

theorem pick_hei (hp : Fine p) : pick (tab p) 34 (by decide) x = binH p x := by
  rw [pick_eq, tab_hei, binH_eq x hp]

theorem pick_inv (hp : Fine p) : pick (tab p) 26 (by decide) x = (binW p x + Ideal.ofBits .f32 0x322BCC77#32)⁻¹ := by
  rw [pick_eq, tab_inv, ← binW_eq x hp, div_of_ne (width_ne x hp), one_mul]

theorem pick_left (hp : Fine p) : pick (tab p) 17 (by decide) x = binA p x := by
  rw [pick_eq]
  refine (tab_slo p ⟨(inBin p x).val, by omega⟩).trans ?_
  unfold binA
  congr 2
  exact (cnt_eq x hp).symm

theorem pick_right (hp : Fine p) : pick (tab p) 18 (by decide) x = binB p x := by
  rw [pick_eq]
  have : (⟨18 + (inBin p x).val, by omega⟩ : Fin 48) = ⟨17 + ((inBin p x).val + 1), by omega⟩ := Fin.ext (by simp only; omega)
  rw [this]
  refine (tab_slo p ⟨(inBin p x).val + 1, by omega⟩).trans ?_
  unfold binB
  congr 2
  rw [cnt_eq x hp]

theorem kS_eq (hp : Fine p) : kS (tab p) x = binS p x := by
  unfold kS binS rS
  rw [pick_hei x hp, pick_inv x hp, div_of_ne (width_ne x hp)]

theorem kXi_eq (hp : Fine p) : kXi (tab p) x = binXi p x := by
  unfold kXi binXi rXi
  rw [pick_knot x hp, pick_inv x hp, div_of_ne (width_ne x hp)]

theorem kDen0_eq (hp : Fine p) : kDen0 (tab p) x = rDen0 (binS p x) (binA p x) (binB p x) (binXi p x) := by
  unfold kDen0 kU rDen0
  rw [kS_eq x hp, kXi_eq x hp, pick_left x hp, pick_right x hp, mul_assoc]

/-- The secant slope is `⊥` or a positive real. -/
theorem binS_cases (hp : Fine p) : binS p x = ⊥ ∨ ∃ r : ℝ, 0 < r ∧ binS p x = (r : EReal) := by
  obtain ⟨v, hv, ev⟩ := width_pos x hp
  unfold binS rS
  rw [div_of_ne (width_ne x hp), ev, ← EReal.coe_inv, binH_eq x hp]
  have hv' := inv_pos.mpr hv
  unfold hei
  induction h : top (fun j : Fin 8 => p ⟨8 + j.val, by omega⟩) with
  | bot => exact Or.inl (by rw [soft_bad _ (Or.inr h), EReal.bot_mul_coe_of_pos hv'])
  | top => exact Or.inl (by rw [soft_bad _ (Or.inl h), EReal.bot_mul_coe_of_pos hv'])
  | coe M =>
    obtain ⟨w, hw, ew⟩ := soft_good _ M h
    exact Or.inr ⟨w (inBin p x) * v⁻¹, mul_pos (hw _) hv', by rw [ew, EReal.coe_mul]⟩

/-- The place in the bin is a real between 0 and 1. -/
theorem binXi_unit : ∃ t : ℝ, 0 ≤ t ∧ t ≤ 1 ∧ binXi p x = (t : EReal) := by
  have h0 : 0 ≤ binXi p x := le_min zero_le_one (le_max_left _ _)
  have h1 : binXi p x ≤ 1 := min_le_left _ _
  induction h : binXi p x with
  | bot => rw [h] at h0; exact absurd h0 (not_le.mpr EReal.bot_lt_zero)
  | top => rw [h] at h1; exact absurd h1 (not_le.mpr (by rw [← EReal.coe_one]; exact EReal.coe_lt_top 1))
  | coe t =>
    rw [h] at h0 h1
    exact ⟨t, EReal.coe_nonneg.mp h0, by rwa [← EReal.coe_one, EReal.coe_le_coe_iff] at h1, rfl⟩

/-- The reference's denominator at an element. -/
abbrev den (p : Fin 25 → EReal) (x : EReal) : EReal := rDen (rDen0 (binS p x) (binA p x) (binB p x) (binXi p x))

theorem den_ne (hp : Fine p) : den p x ≠ 0 := by
  obtain ⟨t, h0, h1, ht⟩ := binXi_unit (p := p) x
  unfold den
  rw [ht]
  exact rDen_ne (rDen0_ne _ (binS_cases x hp) _ _ (slopeOf_pos _) (slopeOf_pos _) t h0 h1)

theorem kR_eq (hp : Fine p) : kR (tab p) x = (den p x)⁻¹ := by
  have h : kR (tab p) x = Ideal.div 1 (den p x) := by
    unfold kR
    rw [sign_eq, kDen0_eq x hp]
    rfl
  rw [h, div_of_ne (den_ne x hp), one_mul]

/-- Inside the range the kernel's value is the reference's. -/
theorem kIn_eq (hp : Fine p) : kIn (tab p) x
    = rIn (knot (hei p) (cnt p x)) (binH p x) (binS p x) (binA p x) (binB p x) (binXi p x) := by
  unfold kIn kU rIn
  rw [kS_eq x hp, kXi_eq x hp, kR_eq x hp, pick_left x hp, pick_hei x hp, pick_up x hp, div_of_ne (den_ne x hp), mul_assoc (binA p x)]

/-- Inside the range the kernel's slope is the reference's. -/
theorem kDeriv_eq (hp : Fine p) : kDeriv (tab p) x = rDer (binS p x) (binA p x) (binB p x) (binXi p x) := by
  unfold kDeriv kU rDer
  rw [kS_eq x hp, kXi_eq x hp, kR_eq x hp, pick_left x hp, pick_right x hp,
    div_of_ne (mul_ne_zero (den_ne x hp) (den_ne x hp)), EReal.mul_inv, ← mul_assoc _ (den p x)⁻¹]

/-- The kernel's value at an element is the reference's. -/
theorem kY_eq (hp : Fine p) : kY (tab p) x = refY p x := by
  unfold kY refY
  rw [kIn_eq x hp, show tab p 17 = slo p 0 from tab_slo p 0, show tab p 25 = slo p 8 from tab_slo p 8]

/-- The logarithm of the kernel's slope at an element is the reference's. -/
theorem kD_eq (hp : Fine p) : Ideal.log (kD (tab p) x) = refL p x := by
  unfold kD refL
  rw [kDeriv_eq x hp, show tab p 17 = slo p 0 from tab_slo p 0, show tab p 25 = slo p 8 from tab_slo p 8, apply_ite Ideal.log, apply_ite Ideal.log]

end Cert.Spline

end
-- ==== Proof.Precondition.lean ====
/-
  What the precondition says of the parameters: in every row the largest width logit is finite.
-/
module

public import proofs.«01_k».proof.Proof.Gen.Pre_width_logits_bounded
public import proofs.«01_k».proof.Proof.Agree
public import Idealize.ShloMosaic.Lib.ReduceAll

@[expose] public section

noncomputable section

namespace Cert.Pre_width_logits_bounded

open Idealize.ShloMosaic
open Cert.Spline

/-- The largest of a row's first eight parameters, as the precondition takes it. -/
theorem row_top (P : FVec Ideal S16x25 .f32) (d : Fin 16) :
    ((Host.reduce FloatOps.maximumf (extractStridedSlice S16x8 ![0, 0] P Facts.slices_S16x25_S16x8_0_0)
      (constant S_ .f32 0xFF800000#32) Facts.reducesTo_S16x8_S16_d1 Facts.h_S_ : FVec Ideal S16 .f32) (ix1 d) : EReal)
      = top fun j : Fin 8 => P (ix2 d ⟨j.val, by omega⟩) := by
  rw [top_eq]
  pointwise [c_bot]
  rfl

/-- The comparison of a magnitude with `⊤`, read at an element. -/
theorem finite_at (A : FVec Ideal S16 .f32) (d : Fin 16) :
    cmpf .olt (Host.absf A) (broadcastInDim S16 ![] Facts.bcast_S_S16 (constant S_ .f32 0x7F800000#32)) (ix1 d)
      = BitVec.ofBool (decide (max (A (ix1 d) : EReal) (-(A (ix1 d) : EReal)) < Ideal.ofBits .f32 0x7F800000#32)) := rfl

/-- Under the precondition every row's largest width logit is finite. -/
theorem fine_of_pre (X : FVec Ideal S524288x16 .f32) (P : FVec Ideal S16x25 .f32)
    (h : fn (F := Ideal) X P = fun _ => 1#1) (d : Fin 16) : Fine fun i => P (ix2 d i) := by
  have h0 := congrFun h ix0
  dsimp only [fn] at h0
  have := Host.reduce_andi_all _ _ _ _ _ h0 (ix1 d)
  rw [finite_at, row_top, c_top] at this
  have lt : max (top fun j : Fin 8 => P (ix2 d ⟨j.val, by omega⟩)) (-(top fun j : Fin 8 => P (ix2 d ⟨j.val, by omega⟩))) < ⊤ := by
    by_contra hn
    rw [decide_eq_false hn] at this
    exact absurd this (by decide)
  unfold Fine
  induction ht : top fun j : Fin 8 => P (ix2 d ⟨j.val, by omega⟩) with
  | bot => rw [ht, EReal.neg_bot, max_eq_right le_top] at lt; exact absurd lt (lt_irrefl _)
  | top => rw [ht, max_eq_left le_top] at lt; exact absurd lt (lt_irrefl _)
  | coe M => exact ⟨M, rfl⟩

end Cert.Pre_width_logits_bounded

end
-- ==== Proof.lean ====
/-
  The proof of `Cert.Claim`: both kernels and the reference run and leave their arguments and counters as they were, the
  ideal kernel is the kernel under the sign rule, and in extended reals it computes the reference's two results.

  The kernel's arrays at the end are read element by element in `Proof/Arrays.lean`, the reference's in
  `Proof/RefEnds.lean`; `Proof/Agree.lean` proves the two elements equal for a row of parameters whose largest width
  logit is finite, which is what the precondition says (`Proof/Precondition.lean`).
-/
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Gen.Pre_width_logits_bounded
public import proofs.«01_k».proof.Proof.Launched
public import proofs.«01_k».proof.Proof.Arrays
public import proofs.«01_k».proof.Proof.RefEnds
public import proofs.«01_k».proof.Proof.Agree
public import proofs.«01_k».proof.Proof.Precondition

@[expose] public section

noncomputable section

namespace Cert.Proof

open Idealize.ShloMosaic Idealize.ShloMosaic.TcCoe Idealize.SL.Sem
open Cert.Spline

/-- The reference runs, leaves its arguments as they were, and declares no counter. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
        ∧ r.2.sem = fun _ => 0) :=
  (θ_run Cert.ReferenceIdeal.defs _ _).mono
    (fun r h => ⟨fun c => ⟨(h c).2.2.1, (h c).2.2.2⟩, Idealize.ShloMosaic.sem_eq_zero_of_no_sems (by decide) r.2⟩)
    (Cert.ReferenceIdeal.Value.run (F := Ideal) m g)

/-- The ideal kernel's two results are the reference's, from arguments that agree and whose rows of width logits have
    finite largest entries. -/
theorem algebraic : Cert.algebraic_KernelIdeal_ReferenceIdeal_pre_width_logits_bounded := by
  intro m g m' g' hpre hargs
  refine ⟨fun c => Cert.KernelIdeal.Gen.W4 m g c (Proc.devRef .tc Cert.KernelIdeal.main_v3),
    fun c => Cert.KernelIdeal.Gen.W4 m g c (Proc.devRef .tc Cert.KernelIdeal.main_v2_1), Cert.KernelIdeal.Value.run m g, ?_⟩
  refine (θ_run Cert.ReferenceIdeal.defs _ _).mono (fun r h c => ?_) (Cert.ReferenceIdeal.Value.run_at m' g')
  obtain ⟨hy, hl, h0, h1⟩ := h c
  have fine := Cert.Pre_width_logits_bounded.fine_of_pre _ _ (hpre c)
  have ea : ∀ d, Cert.ReferenceIdeal.Value.par (StableHlo.launchContents m' c) d
      = fun i => (m ((c.tc : Thread Cert.KernelIdeal.nD Cert.KernelIdeal.τ).loc Cert.KernelIdeal.main_arg1) : FVec Ideal Cert.KernelIdeal.S16x25 .f32) (ix2 d i) :=
    fun d => funext fun i => congrFun (hargs c).2 (ix2 d i)
  have ex : ∀ d n, Cert.ReferenceIdeal.Value.inp (StableHlo.launchContents m' c) d n
      = (m ((c.tc : Thread Cert.KernelIdeal.nD Cert.KernelIdeal.τ).loc Cert.KernelIdeal.main_arg0) : FVec Ideal Cert.KernelIdeal.S524288x16 .f32) (ix2 n d) :=
    fun d n => congrFun (hargs c).1 (ix2 n d)
  refine ⟨?_, ?_, h0, h1⟩
  · refine funext fun i => ?_
    obtain ⟨n, d, rfl⟩ : ∃ (n : Fin 524288) (d : Fin 16), i = ix2 n d := ⟨i 0, i 1, by funext k; fin_cases k <;> rfl⟩
    refine (hy n d).trans ?_
    rw [ea, ex]
    exact (kY_eq _ (fine d)).symm.trans (Cert.KernelIdeal.Value.y_end m g c n d).symm
  · refine funext fun i => ?_
    obtain ⟨n, rfl⟩ : ∃ n : Fin 524288, i = ix1 n := ⟨i 0, by funext k; fin_cases k; rfl⟩
    refine (hl n).trans (Eq.trans ?_ (Cert.KernelIdeal.Value.ld_end m g c n).symm)
    refine Finset.sum_congr (M := EReal) rfl fun d _ => ?_
    rw [ea, ex]
    exact (kD_eq _ (fine d)).symm

/-- The certificate's claim. -/
theorem claim : Cert.Claim :=
  ⟨Cert.Kernel.Gen.facts, Cert.KernelIdeal.Gen.facts, Cert.ReferenceIdeal.Gen.facts, Cert.Pre_width_logits_bounded.Gen.facts,
    fun m g _ => Cert.Kernel.Gen.frame m g,
    fun m g _ => Cert.KernelIdeal.Gen.frame m g,
    fun m g _ => Cert.KernelIdeal.Gen.frame m g,
    fun m g _ => reference_frame m g,
    fun m g _ => reference_frame m g,
    IdealRules.sign_bit.statement _ _,
    algebraic⟩

end Cert.Proof

end
